-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesReference (m : (ℓ : Loc Cert.ScalesReference.nD Cert.ScalesReference.τ Cert.ScalesReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2)
      ∧ r.2.mem ((c.tc : Thread Cert.Scales.nD Cert.Scales.τ).loc Cert.Scales.main_arg3) = m ((c.tc : Thread Cert.Scales.nD Cert.Scales.τ).loc Cert.Scales.main_arg3)
      ∧ r.2.mem ((c.tc : Thread Cert.Scales.nD Cert.Scales.τ).loc Cert.Scales.main_arg4) = m ((c.tc : Thread Cert.Scales.nD Cert.Scales.τ).loc Cert.Scales.main_arg4)
      ∧ r.2.mem ((c.tc : Thread Cert.Scales.nD Cert.Scales.τ).loc Cert.Scales.main_arg5) = m ((c.tc : Thread Cert.Scales.nD Cert.Scales.τ).loc Cert.Scales.main_arg5))
      ∧ r.2.sem = fun _ => 0)

def quiescent_ScalesReference [hScalesReference : Cert.ScalesReference.Facts] : Prop :=
  ∀ (m : (ℓ : Loc Cert.ScalesReference.nD Cert.ScalesReference.τ Cert.ScalesReference.sig) → Buf (Elt Bits) ℓ) (g : Dev Cert.ScalesReference.nD → PrngReg), Pre_ScalesReference m →
    θ_run (Cert.ScalesReference.defs (F := Bits)) (onTc (τ := Cert.ScalesReference.τ) (Cert.ScalesReference.main (F := Bits))) ⟨m, fun _ => 0, g⟩ (fun r => (∀ c : Dev Cert.ScalesReference.nD,
      r.2.mem ((c.tc : Thread Cert.ScalesReference.nD Cert.ScalesReference.τ).loc Cert.ScalesReference.main_arg0) = m ((c.tc : Thread Cert.ScalesReference.nD Cert.ScalesReference.τ).loc Cert.ScalesReference.main_arg0)
      ∧ r.2.mem ((c.tc : Thread Cert.ScalesReference.nD Cert.ScalesReference.τ).loc Cert.ScalesReference.main_arg1) = m ((c.tc : Thread Cert.ScalesReference.nD Cert.ScalesReference.τ).loc Cert.ScalesReference.main_arg1)
      ∧ r.2.mem ((c.tc : Thread Cert.ScalesReference.nD Cert.ScalesReference.τ).loc Cert.ScalesReference.main_arg2) = m ((c.tc : Thread Cert.ScalesReference.nD Cert.ScalesReference.τ).loc Cert.ScalesReference.main_arg2)
      ∧ r.2.mem ((c.tc : Thread Cert.ScalesReference.nD Cert.ScalesReference.τ).loc Cert.ScalesReference.main_arg3) = m ((c.tc : Thread Cert.ScalesReference.nD Cert.ScalesReference.τ).loc Cert.ScalesReference.main_arg3)
      ∧ r.2.mem ((c.tc : Thread Cert.ScalesReference.nD Cert.ScalesReference.τ).loc Cert.ScalesReference.main_arg4) = m ((c.tc : Thread Cert.ScalesReference.nD Cert.ScalesReference.τ).loc Cert.ScalesReference.main_arg4)
      ∧ r.2.mem ((c.tc : Thread Cert.ScalesReference.nD Cert.ScalesReference.τ).loc Cert.ScalesReference.main_arg5) = m ((c.tc : Thread Cert.ScalesReference.nD Cert.ScalesReference.τ).loc Cert.ScalesReference.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v29)) (v5 : (c : Dev Cert.KernelIdeal.nD) → Buf (Elt Ideal) ((c.tc : Thread Cert.KernelIdeal.nD Cert.KernelIdeal.τ).loc Cert.KernelIdeal.main_v22)) (v6 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_v26) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_v23) = v5 c
          ∧ r.2.mem ((c.tc : Thread Cert.ReferenceIdeal.nD Cert.ReferenceIdeal.τ).loc Cert.ReferenceIdeal.main_v28) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def bitexact_Scales_ScalesReference [hScales : Cert.Scales.Facts] [hScalesReference : Cert.ScalesReference.Facts] : Prop :=
  ∀ (m : (ℓ : Loc Cert.Scales.nD Cert.Scales.τ Cert.Scales.sig) → Buf (Elt Bits) ℓ) (g : Dev Cert.Scales.nD → PrngReg)
    (m' : (ℓ : Loc Cert.ScalesReference.nD Cert.ScalesReference.τ Cert.ScalesReference.sig) → Buf (Elt Bits) ℓ) (g' : Dev Cert.ScalesReference.nD → PrngReg), Pre_Scales m →
    (∀ c : Dev Cert.Scales.nD,
      m' ((c.tc : Thread Cert.ScalesReference.nD Cert.ScalesReference.τ).loc Cert.ScalesReference.main_arg0) = m ((c.tc : Thread Cert.Scales.nD Cert.Scales.τ).loc Cert.Scales.main_arg0)
      ∧ m' ((c.tc : Thread Cert.ScalesReference.nD Cert.ScalesReference.τ).loc Cert.ScalesReference.main_arg1) = m ((c.tc : Thread Cert.Scales.nD Cert.Scales.τ).loc Cert.Scales.main_arg1)
      ∧ m' ((c.tc : Thread Cert.ScalesReference.nD Cert.ScalesReference.τ).loc Cert.ScalesReference.main_arg2) = m ((c.tc : Thread Cert.Scales.nD Cert.Scales.τ).loc Cert.Scales.main_arg2)
      ∧ m' ((c.tc : Thread Cert.ScalesReference.nD Cert.ScalesReference.τ).loc Cert.ScalesReference.main_arg3) = m ((c.tc : Thread Cert.Scales.nD Cert.Scales.τ).loc Cert.Scales.main_arg3)
      ∧ m' ((c.tc : Thread Cert.ScalesReference.nD Cert.ScalesReference.τ).loc Cert.ScalesReference.main_arg4) = m ((c.tc : Thread Cert.Scales.nD Cert.Scales.τ).loc Cert.Scales.main_arg4)
      ∧ m' ((c.tc : Thread Cert.ScalesReference.nD Cert.ScalesReference.τ).loc Cert.ScalesReference.main_arg5) = m ((c.tc : Thread Cert.Scales.nD Cert.Scales.τ).loc Cert.Scales.main_arg5)) →
    ∃ (v0 : (c : Dev Cert.Scales.nD) → Buf (Elt Bits) ((c.tc : Thread Cert.Scales.nD Cert.Scales.τ).loc Cert.Scales.main_v25_0)) (v1 : (c : Dev Cert.Scales.nD) → Buf (Elt Bits) ((c.tc : Thread Cert.Scales.nD Cert.Scales.τ).loc Cert.Scales.main_v6)) (v2 : (c : Dev Cert.Scales.nD) → Buf (Elt Bits) ((c.tc : Thread Cert.Scales.nD Cert.Scales.τ).loc Cert.Scales.main_v15)),
      θ_run (Cert.Scales.defs (F := Bits)) (onTc (τ := Cert.Scales.τ) (Cert.Scales.main (F := Bits))) ⟨m, fun _ => 0, g⟩ (fun r => ∀ c : Dev Cert.Scales.nD,
          r.2.mem ((c.tc : Thread Cert.Scales.nD Cert.Scales.τ).loc Cert.Scales.main_v25_0) = v0 c
          ∧ r.2.mem ((c.tc : Thread Cert.Scales.nD Cert.Scales.τ).loc Cert.Scales.main_v6) = v1 c
          ∧ r.2.mem ((c.tc : Thread Cert.Scales.nD Cert.Scales.τ).loc Cert.Scales.main_v15) = v2 c
          ∧ r.2.mem ((c.tc : Thread Cert.Scales.nD Cert.Scales.τ).loc Cert.Scales.main_arg0) = m ((c.tc : Thread Cert.Scales.nD Cert.Scales.τ).loc Cert.Scales.main_arg0)
          ∧ r.2.mem ((c.tc : Thread Cert.Scales.nD Cert.Scales.τ).loc Cert.Scales.main_arg1) = m ((c.tc : Thread Cert.Scales.nD Cert.Scales.τ).loc Cert.Scales.main_arg1)
          ∧ r.2.mem ((c.tc : Thread Cert.Scales.nD Cert.Scales.τ).loc Cert.Scales.main_arg2) = m ((c.tc : Thread Cert.Scales.nD Cert.Scales.τ).loc Cert.Scales.main_arg2)
          ∧ r.2.mem ((c.tc : Thread Cert.Scales.nD Cert.Scales.τ).loc Cert.Scales.main_arg3) = m ((c.tc : Thread Cert.Scales.nD Cert.Scales.τ).loc Cert.Scales.main_arg3)
          ∧ r.2.mem ((c.tc : Thread Cert.Scales.nD Cert.Scales.τ).loc Cert.Scales.main_arg4) = m ((c.tc : Thread Cert.Scales.nD Cert.Scales.τ).loc Cert.Scales.main_arg4)
          ∧ r.2.mem ((c.tc : Thread Cert.Scales.nD Cert.Scales.τ).loc Cert.Scales.main_arg5) = m ((c.tc : Thread Cert.Scales.nD Cert.Scales.τ).loc Cert.Scales.main_arg5))
      ∧ θ_run (Cert.ScalesReference.defs (F := Bits)) (onTc (τ := Cert.ScalesReference.τ) (Cert.ScalesReference.main (F := Bits))) ⟨m', fun _ => 0, g'⟩ (fun r => ∀ c : Dev Cert.ScalesReference.nD,
          r.2.mem ((c.tc : Thread Cert.ScalesReference.nD Cert.ScalesReference.τ).loc Cert.ScalesReference.main_v18) = v0 c
          ∧ r.2.mem ((c.tc : Thread Cert.ScalesReference.nD Cert.ScalesReference.τ).loc Cert.ScalesReference.main_v5) = v1 c
          ∧ r.2.mem ((c.tc : Thread Cert.ScalesReference.nD Cert.ScalesReference.τ).loc Cert.ScalesReference.main_v13) = v2 c
          ∧ r.2.mem ((c.tc : Thread Cert.ScalesReference.nD Cert.ScalesReference.τ).loc Cert.ScalesReference.main_arg0) = m' ((c.tc : Thread Cert.ScalesReference.nD Cert.ScalesReference.τ).loc Cert.ScalesReference.main_arg0)
          ∧ r.2.mem ((c.tc : Thread Cert.ScalesReference.nD Cert.ScalesReference.τ).loc Cert.ScalesReference.main_arg1) = m' ((c.tc : Thread Cert.ScalesReference.nD Cert.ScalesReference.τ).loc Cert.ScalesReference.main_arg1)
          ∧ r.2.mem ((c.tc : Thread Cert.ScalesReference.nD Cert.ScalesReference.τ).loc Cert.ScalesReference.main_arg2) = m' ((c.tc : Thread Cert.ScalesReference.nD Cert.ScalesReference.τ).loc Cert.ScalesReference.main_arg2)
          ∧ r.2.mem ((c.tc : Thread Cert.ScalesReference.nD Cert.ScalesReference.τ).loc Cert.ScalesReference.main_arg3) = m' ((c.tc : Thread Cert.ScalesReference.nD Cert.ScalesReference.τ).loc Cert.ScalesReference.main_arg3)
          ∧ r.2.mem ((c.tc : Thread Cert.ScalesReference.nD Cert.ScalesReference.τ).loc Cert.ScalesReference.main_arg4) = m' ((c.tc : Thread Cert.ScalesReference.nD Cert.ScalesReference.τ).loc Cert.ScalesReference.main_arg4)
          ∧ r.2.mem ((c.tc : Thread Cert.ScalesReference.nD Cert.ScalesReference.τ).loc Cert.ScalesReference.main_arg5) = m' ((c.tc : Thread Cert.ScalesReference.nD Cert.ScalesReference.τ).loc Cert.ScalesReference.main_arg5))

def Claim : Prop :=
  ∃ (hKernel : Cert.Kernel.Facts) (hKernelIdeal : Cert.KernelIdeal.Facts) (hReferenceIdeal : Cert.ReferenceIdeal.Facts) (hScales : Cert.Scales.Facts) (hScalesReference : Cert.ScalesReference.Facts),
    quiescent_Kernel (hKernel := hKernel)
    ∧ quiescent_KernelIdeal (hKernelIdeal := hKernelIdeal)
    ∧ quiescent_ReferenceIdeal (hReferenceIdeal := hReferenceIdeal)
    ∧ quiescent_Scales (hScales := hScales)
    ∧ quiescent_ScalesReference (hScalesReference := hScalesReference)
    ∧ preserves_Kernel_KernelIdeal
    ∧ algebraic_KernelIdeal_ReferenceIdeal (hKernelIdeal := hKernelIdeal) (hReferenceIdeal := hReferenceIdeal)
    ∧ bitexact_Scales_ScalesReference (hScales := hScales) (hScalesReference := hScalesReference)
-- ==== Kernel.lean ====
abbrev S24x640x7168 : Shape := ⟨3, ![24, 640, 7168]⟩
abbrev S24x640x4096 : Shape := ⟨3, ![24, 640, 4096]⟩
abbrev S_ : Shape := ⟨0, ![]⟩
abbrev S24x640x2048 : Shape := ⟨3, ![24, 640, 2048]⟩
abbrev S7168x4096 : Shape := ⟨2, ![7168, 4096]⟩
abbrev S2048x7168 : Shape := ⟨2, ![2048, 7168]⟩
abbrev S16 : Shape := ⟨1, ![16]⟩
abbrev S1 : Shape := ⟨1, ![1]⟩
abbrev S3 : Shape := ⟨1, ![3]⟩
abbrev S15360x7168 : Shape := ⟨2, ![15360, 7168]⟩
abbrev S15360x4096 : Shape := ⟨2, ![15360, 4096]⟩
abbrev S8x128 : Shape := ⟨2, ![8, 128]⟩
abbrev S512x7168 : Shape := ⟨2, ![512, 7168]⟩
abbrev S512x4096 : Shape := ⟨2, ![512, 4096]⟩
abbrev S64x8x7168 : Shape := ⟨3, ![64, 8, 7168]⟩
abbrev S8x7168 : Shape := ⟨2, ![8, 7168]⟩
abbrev S512x2048 : Shape := ⟨2, ![512, 2048]⟩
abbrev S64x8x2048 : Shape := ⟨3, ![64, 8, 2048]⟩
abbrev S8x2048 : Shape := ⟨2, ![8, 2048]⟩
abbrev S15360x512 : Shape := ⟨2, ![15360, 512]⟩
abbrev S512x512 : Shape := ⟨2, ![512, 512]⟩
abbrev S15360x2048 : Shape := ⟨2, ![15360, 2048]⟩
abbrev S15 : Shape := ⟨1, ![15]⟩

abbrev nBuf : Space → Nat
  | .hbm => 51
  | .vmem => 28
  | .smem => 4
  | _ => 0

abbrev bufTy : (tb : Table) → Fin (tcTables nBuf tb) → BufTy
  | .hbm, ⟨0, _⟩ => ⟨S24x640x7168, .bf16⟩
  | .hbm, ⟨1, _⟩ => ⟨S24x640x4096, .bf16⟩
  | .hbm, ⟨2, _⟩ => ⟨S24x640x7168, .fp8e4m3⟩
  | .hbm, ⟨3, _⟩ => ⟨S_, .f32⟩
  | .hbm, ⟨4, _⟩ => ⟨S24x640x2048, .fp8e4m3⟩
  | .hbm, ⟨5, _⟩ => ⟨S_, .f32⟩
  | .hbm, ⟨6, _⟩ => ⟨S7168x4096, .fp8e4m3⟩
  | .hbm, ⟨7, _⟩ => ⟨S_, .f32⟩
  | .hbm, ⟨8, _⟩ => ⟨S2048x7168, .fp8e4m3⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S3, .f32⟩
  | .hbm, ⟨21, _⟩ => ⟨S15360x7168, .bf16⟩
  | .hbm, ⟨22, _⟩ => ⟨S15360x4096, .bf16⟩
  | .hbm, ⟨23, _⟩ => ⟨S15360x7168, .fp8e5m2⟩
  | .hbm, ⟨24, _⟩ => ⟨S15360x4096, .fp8e5m2⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S1, .f32⟩
  | .hbm, ⟨29, _⟩ => ⟨S15360x7168, .bf16⟩
  | .hbm, ⟨30, _⟩ => ⟨S_, .f32⟩
  | .hbm, ⟨31, _⟩ => ⟨S15360x7168, .fp8e4m3⟩
  | .hbm, ⟨32, _⟩ => ⟨S1, .f32⟩
  | .hbm, ⟨33, _⟩ => ⟨S7168x4096, .bf16⟩
  | .hbm, ⟨34, _⟩ => ⟨S_, .f32⟩
  | .hbm, ⟨35, _⟩ => ⟨S15360x2048, .fp8e4m3⟩
  | .hbm, ⟨36, _⟩ => ⟨S1, .f32⟩
  | .hbm, ⟨37, _⟩ => ⟨S2048x7168, .bf16⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S15, .f32⟩
  | .hbm, ⟨42, _⟩ => ⟨S16, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S15, .f32⟩
  | .hbm, ⟨47, _⟩ => ⟨S16, .f32⟩
  | .hbm, ⟨48, _⟩ => ⟨S24x640x7168, .bf16⟩
  | .hbm, ⟨49, _⟩ => ⟨S24x640x7168, .fp8e5m2⟩
  | .hbm, ⟨50, _⟩ => ⟨S24x640x4096, .fp8e5m2⟩
  | .local _ .vmem, ⟨0, _⟩ => ⟨S512x7168, .bf16⟩
  | .local _ .vmem, ⟨1, _⟩ => ⟨S512x7168, .bf16⟩
  | .local _ .vmem, ⟨2, _⟩ => ⟨S512x4096, .bf16⟩
  | .local _ .vmem, ⟨3, _⟩ => ⟨S512x4096, .bf16⟩
  | .local _ .vmem, ⟨4, _⟩ => ⟨S2048x7168, .fp8e4m3⟩
  | .local _ .vmem, ⟨5, _⟩ => ⟨S512x7168, .fp8e5m2⟩
  | .local _ .vmem, ⟨6, _⟩ => ⟨S512x7168, .fp8e5m2⟩
  | .local _ .vmem, ⟨7, _⟩ => ⟨S512x4096, .fp8e5m2⟩
  | .local _ .vmem, ⟨8, _⟩ => ⟨S512x4096, .fp8e5m2⟩
  | .local _ .vmem, ⟨9, _⟩ => ⟨S8x128, .f32⟩
  | .local _ .vmem, ⟨10, _⟩ => ⟨S8x128, .f32⟩
  | .local _ .vmem, ⟨11, _⟩ => ⟨S512x4096, .fp8e5m2⟩
  | .local _ .vmem, ⟨12, _⟩ => ⟨S512x4096, .fp8e5m2⟩
  | .local _ .vmem, ⟨13, _⟩ => ⟨S7168x4096, .fp8e4m3⟩
  | .local _ .vmem, ⟨14, _⟩ => ⟨S512x7168, .bf16⟩
  | .local _ .vmem, ⟨15, _⟩ => ⟨S512x7168, .bf16⟩
  | .local _ .vmem, ⟨16, _⟩ => ⟨S15360x512, .fp8e4m3⟩
  | .local _ .vmem, ⟨17, _⟩ => ⟨S15360x512, .fp8e4m3⟩
  | .local _ .vmem, ⟨18, _⟩ => ⟨S15360x512, .fp8e5m2⟩
  | .local _ .vmem, ⟨19, _⟩ => ⟨S15360x512, .fp8e5m2⟩
  | .local _ .vmem, ⟨20, _⟩ => ⟨S512x512, .bf16⟩
  | .local _ .vmem, ⟨21, _⟩ => ⟨S512x512, .bf16⟩
  | .local _ .vmem, ⟨22, _⟩ => ⟨S15360x512, .fp8e4m3⟩
  | .local _ .vmem, ⟨23, _⟩ => ⟨S15360x512, .fp8e4m3⟩
  | .local _ .vmem, ⟨24, _⟩ => ⟨S15360x512, .fp8e5m2⟩
  | .local _ .vmem, ⟨25, _⟩ => ⟨S15360x512, .fp8e5m2⟩
  | .local _ .vmem, ⟨26, _⟩ => ⟨S512x512, .bf16⟩
  | .local _ .vmem, ⟨27, _⟩ => ⟨S512x512, .bf16⟩
  | .local _ .smem, ⟨0, _⟩ => ⟨S3, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S24x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v235 : BitVec 1 := Scalar.cmpi .eq arg0 c0_i32
  let v236 : BitVec 32 := Scalar.extui v235
  let c0_i32_25 : BitVec 32 := 0#32
  let v237 : BitVec 1 := Scalar.cmpi .ne v236 c0_i32_25
  v237

def k0_cond2 (i : grid0.Coords) : BitVec 1 :=
  let arg0 : BitVec 32 := BitVec.ofNat 32 (i 0).val
  let c0_i32_26 : BitVec 32 := 0#32
  let v238 : BitVec 1 := Scalar.cmpi .sgt arg0 c0_i32_26
  let v239 : BitVec 32 := Scalar.extui v238
  let c0_i32_27 : BitVec 32 := 0#32
  let v240 : BitVec 1 := Scalar.cmpi .ne v239 c0_i32_27
  v240

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x7168 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![30], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7168x4096 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x7168 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![14, 8], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S15360x512 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S15360x512 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 14], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S15360x512 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S15360x512 .fp8e5m2 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== ReferenceIdeal.lean ====
abbrev S24x640x7168 : Shape := ⟨3, ![24, 640, 7168]⟩
abbrev S24x640x4096 : Shape := ⟨3, ![24, 640, 4096]⟩
abbrev S_ : Shape := ⟨0, ![]⟩
abbrev S24x640x2048 : Shape := ⟨3, ![24, 640, 2048]⟩
abbrev S7168x4096 : Shape := ⟨2, ![7168, 4096]⟩
abbrev S2048x7168 : Shape := ⟨2, ![2048, 7168]⟩
abbrev S16 : Shape := ⟨1, ![16]⟩
abbrev S15360x7168 : Shape := ⟨2, ![15360, 7168]⟩
abbrev S15360x4096 : Shape := ⟨2, ![15360, 4096]⟩
abbrev S15360x2048 : Shape := ⟨2, ![15360, 2048]⟩
abbrev S1x1 : Shape := ⟨2, ![1, 1]⟩
abbrev S1 : Shape := ⟨1, ![1]⟩
abbrev S15 : Shape := ⟨1, ![15]⟩

abbrev nBuf : Space → Nat
  | .hbm => 52
  | .vmem => 18
  | .smem => 0
  | _ => 0

abbrev bufTy : (tb : Table) → Fin (tcTables nBuf tb) → BufTy
  | .hbm, ⟨0, _⟩ => ⟨S24x640x7168, .bf16⟩
  | .hbm, ⟨1, _⟩ => ⟨S24x640x4096, .bf16⟩
  | .hbm, ⟨2, _⟩ => ⟨S24x640x7168, .fp8e4m3⟩
  | .hbm, ⟨3, _⟩ => ⟨S_, .f32⟩
  | .hbm, ⟨4, _⟩ => ⟨S24x640x2048, .fp8e4m3⟩
  | .hbm, ⟨5, _⟩ => ⟨S_, .f32⟩
  | .hbm, ⟨6, _⟩ => ⟨S7168x4096, .fp8e4m3⟩
  | .hbm, ⟨7, _⟩ => ⟨S_, .f32⟩
  | .hbm, ⟨8, _⟩ => ⟨S2048x7168, .fp8e4m3⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S15360x7168, .bf16⟩
  | .hbm, ⟨17, _⟩ => ⟨S15360x4096, .bf16⟩
  | .hbm, ⟨18, _⟩ => ⟨S15360x7168, .fp8e4m3⟩
  | .hbm, ⟨19, _⟩ => ⟨S15360x2048, .fp8e4m3⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S15360x7168, .bf16⟩
  | .hbm, ⟨31, _⟩ => ⟨S7168x4096, .bf16⟩
  | .hbm, ⟨32, _⟩ => ⟨S2048x7168, .bf16⟩
  | .hbm, ⟨33, _⟩ => ⟨S15360x7168, .fp8e5m2⟩
  | .hbm, ⟨34, _⟩ => ⟨S15360x4096, .fp8e5m2⟩
  | .hbm, ⟨35, _⟩ => ⟨S15360x4096, .f32⟩
  | .hbm, ⟨36, _⟩ => ⟨S24x640x7168, .bf16⟩
  | .hbm, ⟨37, _⟩ => ⟨S24x640x7168, .fp8e5m2⟩
  | .hbm, ⟨38, _⟩ => ⟨S24x640x4096, .fp8e5m2⟩
  | .hbm, ⟨39, _⟩ => ⟨S24x640x7168, .f32⟩
  | .hbm, ⟨40, _⟩ => ⟨S24x640x7168, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S15, .f32⟩
  | .hbm, ⟨45, _⟩ => ⟨S16, .f32⟩
  | .hbm, ⟨46, _⟩ => ⟨S15360x4096, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S15, .f32⟩
  | .hbm, ⟨51, _⟩ => ⟨S16, .f32⟩
  | .local _ .vmem, ⟨0, _⟩ => ⟨S15360x7168, .bf16⟩
  | .local _ .vmem, ⟨1, _⟩ => ⟨S15360x4096, .bf16⟩
  | .local _ .vmem, ⟨2, _⟩ => ⟨S15360x7168, .fp8e4m3⟩
  | .local _ .vmem, ⟨3, _⟩ => ⟨S15360x2048, .fp8e4m3⟩
  | .local _ .vmem, ⟨4, _⟩ => ⟨S7168x4096, .fp8e4m3⟩
  | .local _ .vmem, ⟨5, _⟩ => ⟨S2048x7168, .fp8e4m3⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S15360x7168, .bf16⟩
  | .local _ .vmem, ⟨13, _⟩ => ⟨S7168x4096, .bf16⟩
  | .local _ .vmem, ⟨14, _⟩ => ⟨S2048x7168, .bf16⟩
  | .local _ .vmem, ⟨15, _⟩ => ⟨S15360x7168, .fp8e5m2⟩
  | .local _ .vmem, ⟨16, _⟩ => ⟨S15360x4096, .fp8e5m2⟩
  | .local _ .vmem, ⟨17, _⟩ => ⟨S15360x4096, .f32⟩
  | _, _ => ⟨S24x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S15360x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S15360x7168 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7168x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x7168 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S15360x7168 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S15360x4096 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S15360x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Scales.lean ====
abbrev S24x640x7168 : Shape := ⟨3, ![24, 640, 7168]⟩
abbrev S24x640x4096 : Shape := ⟨3, ![24, 640, 4096]⟩
abbrev S2048x7168 : Shape := ⟨2, ![2048, 7168]⟩
abbrev S_ : Shape := ⟨0, ![]⟩
abbrev S16 : Shape := ⟨1, ![16]⟩
abbrev S1 : Shape := ⟨1, ![1]⟩
abbrev S3 : Shape := ⟨1, ![3]⟩
abbrev S15360x7168 : Shape := ⟨2, ![15360, 7168]⟩
abbrev S15360x4096 : Shape := ⟨2, ![15360, 4096]⟩
abbrev S8x128 : Shape := ⟨2, ![8, 128]⟩
abbrev S512x7168 : Shape := ⟨2, ![512, 7168]⟩
abbrev S512x4096 : Shape := ⟨2, ![512, 4096]⟩
abbrev S64x8x7168 : Shape := ⟨3, ![64, 8, 7168]⟩
abbrev S8x7168 : Shape := ⟨2, ![8, 7168]⟩
abbrev S512x2048 : Shape := ⟨2, ![512, 2048]⟩
abbrev S64x8x2048 : Shape := ⟨3, ![64, 8, 2048]⟩
abbrev S8x2048 : Shape := ⟨2, ![8, 2048]⟩

abbrev nBuf : Space → Nat
  | .hbm => 285
  | .vmem => 11
  | .smem => 1
  | _ => 0

abbrev hbmTy0_0 (i : Nat) : BufTy := match i % 128 with
  | 0 => ⟨S24x640x7168, .bf16⟩
  | 1 => ⟨S24x640x4096, .bf16⟩
  | 2 => ⟨S2048x7168, .fp8e4m3⟩
  | 3 => ⟨S_, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .f32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .f32⟩
  | 44 => ⟨S_, .f32⟩
  | 45 => ⟨S_, .f32⟩
  | 46 => ⟨S_, .f32⟩
  | 47 => ⟨S_, .i1⟩
  | 48 => ⟨S_, .i32⟩
  | 49 => ⟨S_, .i32⟩
  | 50 => ⟨S_, .i32⟩
  | 51 => ⟨S_, .f32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .f32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .f32⟩
  | 95 => ⟨S_, .i32⟩
  | 96 => ⟨S_, .f32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .f32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S24x640x7168, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .f32⟩
  | 12 => ⟨S_, .f32⟩
  | 13 => ⟨S_, .f32⟩
  | 14 => ⟨S_, .f32⟩
  | 15 => ⟨S_, .f32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .f32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .f32⟩
  | 50 => ⟨S_, .f32⟩
  | 51 => ⟨S_, .f32⟩
  | 52 => ⟨S_, .f32⟩
  | 53 => ⟨S_, .i1⟩
  | 54 => ⟨S_, .i32⟩
  | 55 => ⟨S_, .i32⟩
  | 56 => ⟨S_, .i32⟩
  | 57 => ⟨S_, .f32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .f32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .f32⟩
  | 101 => ⟨S_, .i32⟩
  | 102 => ⟨S_, .f32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .f32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i1⟩
  | 125 => ⟨S_, .i32⟩
  | 126 => ⟨S_, .i32⟩
  | 127 => ⟨S_, .i32⟩
  | _ => ⟨S24x640x7168, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .f32⟩
  | 18 => ⟨S_, .f32⟩
  | 19 => ⟨S1, .f32⟩
  | 20 => ⟨S1, .f32⟩
  | 21 => ⟨S1, .f32⟩
  | 22 => ⟨S3, .f32⟩
  | 23 => ⟨S15360x7168, .bf16⟩
  | 24 => ⟨S15360x4096, .bf16⟩
  | 25 => ⟨S15360x7168, .fp8e5m2⟩
  | 26 => ⟨S15360x4096, .fp8e5m2⟩
  | 27 => ⟨S8x128, .f32⟩
  | 28 => ⟨S8x128, .f32⟩
  | _ => ⟨S24x640x7168, .bf16⟩

abbrev hbmTy (i : Nat) : BufTy := match i / 128 with
  | 0 => hbmTy0_0 i
  | 1 => hbmTy0_1 i
  | 2 => hbmTy0_2 i
  | _ => ⟨S24x640x7168, .bf16⟩

abbrev bufTy : (tb : Table) → Fin (tcTables nBuf tb) → BufTy
  | .hbm, ⟨i, _⟩ => hbmTy i
  | .local _ .vmem, ⟨0, _⟩ => ⟨S512x7168, .bf16⟩
  | .local _ .vmem, ⟨1, _⟩ => ⟨S512x7168, .bf16⟩
  | .local _ .vmem, ⟨2, _⟩ => ⟨S512x4096, .bf16⟩
  | .local _ .vmem, ⟨3, _⟩ => ⟨S512x4096, .bf16⟩
  | .local _ .vmem, ⟨4, _⟩ => ⟨S2048x7168, .fp8e4m3⟩
  | .local _ .vmem, ⟨5, _⟩ => ⟨S512x7168, .fp8e5m2⟩
  | .local _ .vmem, ⟨6, _⟩ => ⟨S512x7168, .fp8e5m2⟩
  | .local _ .vmem, ⟨7, _⟩ => ⟨S512x4096, .fp8e5m2⟩
  | .local _ .vmem, ⟨8, _⟩ => ⟨S512x4096, .fp8e5m2⟩
  | .local _ .vmem, ⟨9, _⟩ => ⟨S8x128, .f32⟩
  | .local _ .vmem, ⟨10, _⟩ => ⟨S8x128, .f32⟩
  | .local _ .smem, ⟨0, _⟩ => ⟨S3, .f32⟩
  | _, _ => ⟨S24x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_c_1 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_c_3 : Ref sig .tc := ⟨.hbm, 22, rfl⟩
abbrev main_call0_v8 : Ref sig .tc := ⟨.hbm, 23, rfl⟩
abbrev main_call0_c_4 : Ref sig .tc := ⟨.hbm, 24, rfl⟩
abbrev main_call0_v9 : Ref sig .tc := ⟨.hbm, 25, rfl⟩
abbrev main_call0_c_5 : Ref sig .tc := ⟨.hbm, 26, rfl⟩
abbrev main_call0_v10 : Ref sig .tc := ⟨.hbm, 27, rfl⟩
abbrev main_call0_c_6 : Ref sig .tc := ⟨.hbm, 28, rfl⟩
abbrev main_call0_v11 : Ref sig .tc := ⟨.hbm, 29, rfl⟩
abbrev main_call0_c_7 : Ref sig .tc := ⟨.hbm, 30, rfl⟩
abbrev main_call0_v12 : Ref sig .tc := ⟨.hbm, 31, rfl⟩
abbrev main_call0_c_8 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_c_9 : Ref sig .tc := ⟨.hbm, 39, rfl⟩
abbrev main_call0_v19 : Ref sig .tc := ⟨.hbm, 40, rfl⟩
abbrev main_call0_c_10 : Ref sig .tc := ⟨.hbm, 41, rfl⟩
abbrev main_v2_1 : Ref sig .tc := ⟨.hbm, 42, rfl⟩
abbrev main_v2_0 : Ref sig .tc := ⟨.hbm, 43, rfl⟩
abbrev main_cst_1 : Ref sig .tc := ⟨.hbm, 44, rfl⟩
abbrev main_v3 : Ref sig .tc := ⟨.hbm, 45, rfl⟩
abbrev main_cst_2 : Ref sig .tc := ⟨.hbm, 46, rfl⟩
abbrev main_v4 : Ref sig .tc := ⟨.hbm, 47, rfl⟩
abbrev main_c : Ref sig .tc := ⟨.hbm, 48, rfl⟩
abbrev main_call1_v0 : Ref sig .tc := ⟨.hbm, 49, rfl⟩
abbrev main_v5 : Ref sig .tc := ⟨.hbm, 50, rfl⟩
abbrev main_cst_3 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_c_1 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_c_3 : Ref sig .tc := ⟨.hbm, 64, rfl⟩
abbrev main_call2_v8 : Ref sig .tc := ⟨.hbm, 65, rfl⟩
abbrev main_call2_c_4 : Ref sig .tc := ⟨.hbm, 66, rfl⟩
abbrev main_call2_v9 : Ref sig .tc := ⟨.hbm, 67, rfl⟩
abbrev main_call2_c_5 : Ref sig .tc := ⟨.hbm, 68, rfl⟩
abbrev main_call2_v10 : Ref sig .tc := ⟨.hbm, 69, rfl⟩
abbrev main_call2_c_6 : Ref sig .tc := ⟨.hbm, 70, rfl⟩
abbrev main_call2_v11 : Ref sig .tc := ⟨.hbm, 71, rfl⟩
abbrev main_call2_c_7 : Ref sig .tc := ⟨.hbm, 72, rfl⟩
abbrev main_call2_v12 : Ref sig .tc := ⟨.hbm, 73, rfl⟩
abbrev main_call2_c_8 : Ref sig .tc := ⟨.hbm, 74, rfl⟩
abbrev main_call2_c_9 : Ref sig .tc := ⟨.hbm, 75, rfl⟩
abbrev main_call2_v13 : Ref sig .tc := ⟨.hbm, 76, rfl⟩
abbrev main_call2_v14 : Ref sig .tc := ⟨.hbm, 77, rfl⟩
abbrev main_call2_v15 : Ref sig .tc := ⟨.hbm, 78, rfl⟩
abbrev main_call2_c_10 : Ref sig .tc := ⟨.hbm, 79, rfl⟩
abbrev main_call2_v16 : Ref sig .tc := ⟨.hbm, 80, rfl⟩
abbrev main_call2_v17 : Ref sig .tc := ⟨.hbm, 81, rfl⟩
abbrev main_call2_c_11 : Ref sig .tc := ⟨.hbm, 82, rfl⟩
abbrev main_call2_v18 : Ref sig .tc := ⟨.hbm, 83, rfl⟩
abbrev main_call2_v19 : Ref sig .tc := ⟨.hbm, 84, rfl⟩
abbrev main_call2_v20 : Ref sig .tc := ⟨.hbm, 85, rfl⟩
abbrev main_call2_c_12 : Ref sig .tc := ⟨.hbm, 86, rfl⟩
abbrev main_call2_v21 : Ref sig .tc := ⟨.hbm, 87, rfl⟩
abbrev main_call2_c_13 : Ref sig .tc := ⟨.hbm, 88, rfl⟩
abbrev main_call2_v22 : Ref sig .tc := ⟨.hbm, 89, rfl⟩
abbrev main_call2_v23 : Ref sig .tc := ⟨.hbm, 90, rfl⟩
abbrev main_call2_v24 : Ref sig .tc := ⟨.hbm, 91, rfl⟩
abbrev main_call2_v25 : Ref sig .tc := ⟨.hbm, 92, rfl⟩
abbrev main_call2_v26 : Ref sig .tc := ⟨.hbm, 93, rfl⟩
abbrev main_v6 : Ref sig .tc := ⟨.hbm, 94, rfl⟩
abbrev main_v7 : Ref sig .tc := ⟨.hbm, 95, rfl⟩
abbrev main_cst_4 : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_c_1 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_c_2 : Ref sig .tc := ⟨.hbm, 107, rfl⟩
abbrev main_call3_v7 : Ref sig .tc := ⟨.hbm, 108, rfl⟩
abbrev main_call3_c_3 : Ref sig .tc := ⟨.hbm, 109, rfl⟩
abbrev main_call3_v8 : Ref sig .tc := ⟨.hbm, 110, rfl⟩
abbrev main_call3_c_4 : Ref sig .tc := ⟨.hbm, 111, rfl⟩
abbrev main_call3_v9 : Ref sig .tc := ⟨.hbm, 112, rfl⟩
abbrev main_call3_c_5 : Ref sig .tc := ⟨.hbm, 113, rfl⟩
abbrev main_call3_v10 : Ref sig .tc := ⟨.hbm, 114, rfl⟩
abbrev main_call3_c_6 : Ref sig .tc := ⟨.hbm, 115, rfl⟩
abbrev main_call3_v11 : Ref sig .tc := ⟨.hbm, 116, rfl⟩
abbrev main_call3_c_7 : Ref sig .tc := ⟨.hbm, 117, rfl⟩
abbrev main_call3_v12 : Ref sig .tc := ⟨.hbm, 118, rfl⟩
abbrev main_call3_c_8 : Ref sig .tc := ⟨.hbm, 119, rfl⟩
abbrev main_call3_c_9 : Ref sig .tc := ⟨.hbm, 120, rfl⟩
abbrev main_call3_v13 : Ref sig .tc := ⟨.hbm, 121, rfl⟩
abbrev main_call3_v14 : Ref sig .tc := ⟨.hbm, 122, rfl⟩
abbrev main_call3_v15 : Ref sig .tc := ⟨.hbm, 123, rfl⟩
abbrev main_call3_c_10 : Ref sig .tc := ⟨.hbm, 124, rfl⟩
abbrev main_call3_v16 : Ref sig .tc := ⟨.hbm, 125, rfl⟩
abbrev main_call3_v17 : Ref sig .tc := ⟨.hbm, 126, rfl⟩
abbrev main_call3_c_11 : Ref sig .tc := ⟨.hbm, 127, rfl⟩
abbrev main_call3_v18 : Ref sig .tc := ⟨.hbm, 128, rfl⟩
abbrev main_call3_v19 : Ref sig .tc := ⟨.hbm, 129, rfl⟩
abbrev main_call3_v20 : Ref sig .tc := ⟨.hbm, 130, rfl⟩
abbrev main_call3_c_12 : Ref sig .tc := ⟨.hbm, 131, rfl⟩
abbrev main_call3_v21 : Ref sig .tc := ⟨.hbm, 132, rfl⟩
abbrev main_call3_c_13 : Ref sig .tc := ⟨.hbm, 133, rfl⟩
abbrev main_call3_v22 : Ref sig .tc := ⟨.hbm, 134, rfl⟩
abbrev main_call3_v23 : Ref sig .tc := ⟨.hbm, 135, rfl⟩
abbrev main_call3_v24 : Ref sig .tc := ⟨.hbm, 136, rfl⟩
abbrev main_call3_v25 : Ref sig .tc := ⟨.hbm, 137, rfl⟩
abbrev main_call3_v26 : Ref sig .tc := ⟨.hbm, 138, rfl⟩
abbrev main_v8 : Ref sig .tc := ⟨.hbm, 139, rfl⟩
abbrev main_cst_5 : Ref sig .tc := ⟨.hbm, 140, rfl⟩
abbrev main_v9 : Ref sig .tc := ⟨.hbm, 141, rfl⟩
abbrev main_cst_6 : Ref sig .tc := ⟨.hbm, 142, rfl⟩
abbrev main_v10 : Ref sig .tc := ⟨.hbm, 143, rfl⟩
abbrev main_call4_v0 : Ref sig .tc := ⟨.hbm, 144, rfl⟩
abbrev main_call4_c : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_c_1 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_c_2 : Ref sig .tc := ⟨.hbm, 154, rfl⟩
abbrev main_call4_v7 : Ref sig .tc := ⟨.hbm, 155, rfl⟩
abbrev main_call4_c_3 : Ref sig .tc := ⟨.hbm, 156, rfl⟩
abbrev main_call4_v8 : Ref sig .tc := ⟨.hbm, 157, rfl⟩
abbrev main_call4_c_4 : Ref sig .tc := ⟨.hbm, 158, rfl⟩
abbrev main_call4_v9 : Ref sig .tc := ⟨.hbm, 159, rfl⟩
abbrev main_call4_c_5 : Ref sig .tc := ⟨.hbm, 160, rfl⟩
abbrev main_call4_v10 : Ref sig .tc := ⟨.hbm, 161, rfl⟩
abbrev main_call4_c_6 : Ref sig .tc := ⟨.hbm, 162, rfl⟩
abbrev main_call4_v11 : Ref sig .tc := ⟨.hbm, 163, rfl⟩
abbrev main_call4_c_7 : Ref sig .tc := ⟨.hbm, 164, rfl⟩
abbrev main_call4_v12 : Ref sig .tc := ⟨.hbm, 165, rfl⟩
abbrev main_call4_c_8 : Ref sig .tc := ⟨.hbm, 166, rfl⟩
abbrev main_call4_v13 : Ref sig .tc := ⟨.hbm, 167, rfl⟩
abbrev main_call4_v14 : Ref sig .tc := ⟨.hbm, 168, rfl⟩
abbrev main_call4_v15 : Ref sig .tc := ⟨.hbm, 169, rfl⟩
abbrev main_call4_v16 : Ref sig .tc := ⟨.hbm, 170, rfl⟩
abbrev main_call4_v17 : Ref sig .tc := ⟨.hbm, 171, rfl⟩
abbrev main_call4_v18 : Ref sig .tc := ⟨.hbm, 172, rfl⟩
abbrev main_call4_c_9 : Ref sig .tc := ⟨.hbm, 173, rfl⟩
abbrev main_call4_v19 : Ref sig .tc := ⟨.hbm, 174, rfl⟩
abbrev main_call4_c_10 : Ref sig .tc := ⟨.hbm, 175, rfl⟩
abbrev main_v11_1 : Ref sig .tc := ⟨.hbm, 176, rfl⟩
abbrev main_v11_0 : Ref sig .tc := ⟨.hbm, 177, rfl⟩
abbrev main_cst_7 : Ref sig .tc := ⟨.hbm, 178, rfl⟩
abbrev main_v12 : Ref sig .tc := ⟨.hbm, 179, rfl⟩
abbrev main_cst_8 : Ref sig .tc := ⟨.hbm, 180, rfl⟩
abbrev main_v13 : Ref sig .tc := ⟨.hbm, 181, rfl⟩
abbrev main_c_9 : Ref sig .tc := ⟨.hbm, 182, rfl⟩
abbrev main_call5_v0 : Ref sig .tc := ⟨.hbm, 183, rfl⟩
abbrev main_v14 : Ref sig .tc := ⟨.hbm, 184, rfl⟩
abbrev main_cst_10 : Ref sig .tc := ⟨.hbm, 185, rfl⟩
abbrev main_call6_v0 : Ref sig .tc := ⟨.hbm, 186, rfl⟩
abbrev main_call6_c : Ref sig .tc := ⟨.hbm, 187, rfl⟩
abbrev main_call6_v1 : Ref sig .tc := ⟨.hbm, 188, rfl⟩
abbrev main_call6_c_0 : Ref sig .tc := ⟨.hbm, 189, rfl⟩
abbrev main_call6_v2 : Ref sig .tc := ⟨.hbm, 190, rfl⟩
abbrev main_call6_c_1 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_v6 : Ref sig .tc := ⟨.hbm, 195, rfl⟩
abbrev main_call6_c_2 : Ref sig .tc := ⟨.hbm, 196, rfl⟩
abbrev main_call6_v7 : Ref sig .tc := ⟨.hbm, 197, rfl⟩
abbrev main_call6_c_3 : Ref sig .tc := ⟨.hbm, 198, rfl⟩
abbrev main_call6_v8 : Ref sig .tc := ⟨.hbm, 199, rfl⟩
abbrev main_call6_c_4 : Ref sig .tc := ⟨.hbm, 200, rfl⟩
abbrev main_call6_v9 : Ref sig .tc := ⟨.hbm, 201, rfl⟩
abbrev main_call6_c_5 : Ref sig .tc := ⟨.hbm, 202, rfl⟩
abbrev main_call6_v10 : Ref sig .tc := ⟨.hbm, 203, rfl⟩
abbrev main_call6_c_6 : Ref sig .tc := ⟨.hbm, 204, rfl⟩
abbrev main_call6_v11 : Ref sig .tc := ⟨.hbm, 205, rfl⟩
abbrev main_call6_c_7 : Ref sig .tc := ⟨.hbm, 206, rfl⟩
abbrev main_call6_v12 : Ref sig .tc := ⟨.hbm, 207, rfl⟩
abbrev main_call6_c_8 : Ref sig .tc := ⟨.hbm, 208, rfl⟩
abbrev main_call6_c_9 : Ref sig .tc := ⟨.hbm, 209, rfl⟩
abbrev main_call6_v13 : Ref sig .tc := ⟨.hbm, 210, rfl⟩
abbrev main_call6_v14 : Ref sig .tc := ⟨.hbm, 211, rfl⟩
abbrev main_call6_v15 : Ref sig .tc := ⟨.hbm, 212, rfl⟩
abbrev main_call6_c_10 : Ref sig .tc := ⟨.hbm, 213, rfl⟩
abbrev main_call6_v16 : Ref sig .tc := ⟨.hbm, 214, rfl⟩
abbrev main_call6_v17 : Ref sig .tc := ⟨.hbm, 215, rfl⟩
abbrev main_call6_c_11 : Ref sig .tc := ⟨.hbm, 216, rfl⟩
abbrev main_call6_v18 : Ref sig .tc := ⟨.hbm, 217, rfl⟩
abbrev main_call6_v19 : Ref sig .tc := ⟨.hbm, 218, rfl⟩
abbrev main_call6_v20 : Ref sig .tc := ⟨.hbm, 219, rfl⟩
abbrev main_call6_c_12 : Ref sig .tc := ⟨.hbm, 220, rfl⟩
abbrev main_call6_v21 : Ref sig .tc := ⟨.hbm, 221, rfl⟩
abbrev main_call6_c_13 : Ref sig .tc := ⟨.hbm, 222, rfl⟩
abbrev main_call6_v22 : Ref sig .tc := ⟨.hbm, 223, rfl⟩
abbrev main_call6_v23 : Ref sig .tc := ⟨.hbm, 224, rfl⟩
abbrev main_call6_v24 : Ref sig .tc := ⟨.hbm, 225, rfl⟩
abbrev main_call6_v25 : Ref sig .tc := ⟨.hbm, 226, rfl⟩
abbrev main_call6_v26 : Ref sig .tc := ⟨.hbm, 227, rfl⟩
abbrev main_v15 : Ref sig .tc := ⟨.hbm, 228, rfl⟩
abbrev main_v16 : Ref sig .tc := ⟨.hbm, 229, rfl⟩
abbrev main_cst_11 : Ref sig .tc := ⟨.hbm, 230, rfl⟩
abbrev main_call7_v0 : Ref sig .tc := ⟨.hbm, 231, rfl⟩
abbrev main_call7_c : Ref sig .tc := ⟨.hbm, 232, rfl⟩
abbrev main_call7_v1 : Ref sig .tc := ⟨.hbm, 233, rfl⟩
abbrev main_call7_c_0 : Ref sig .tc := ⟨.hbm, 234, rfl⟩
abbrev main_call7_v2 : Ref sig .tc := ⟨.hbm, 235, rfl⟩
abbrev main_call7_c_1 : Ref sig .tc := ⟨.hbm, 236, rfl⟩
abbrev main_call7_v3 : Ref sig .tc := ⟨.hbm, 237, rfl⟩
abbrev main_call7_v4 : Ref sig .tc := ⟨.hbm, 238, rfl⟩
abbrev main_call7_v5 : Ref sig .tc := ⟨.hbm, 239, rfl⟩
abbrev main_call7_v6 : Ref sig .tc := ⟨.hbm, 240, rfl⟩
abbrev main_call7_c_2 : Ref sig .tc := ⟨.hbm, 241, rfl⟩
abbrev main_call7_v7 : Ref sig .tc := ⟨.hbm, 242, rfl⟩
abbrev main_call7_c_3 : Ref sig .tc := ⟨.hbm, 243, rfl⟩
abbrev main_call7_v8 : Ref sig .tc := ⟨.hbm, 244, rfl⟩
abbrev main_call7_c_4 : Ref sig .tc := ⟨.hbm, 245, rfl⟩
abbrev main_call7_v9 : Ref sig .tc := ⟨.hbm, 246, rfl⟩
abbrev main_call7_c_5 : Ref sig .tc := ⟨.hbm, 247, rfl⟩
abbrev main_call7_v10 : Ref sig .tc := ⟨.hbm, 248, rfl⟩
abbrev main_call7_c_6 : Ref sig .tc := ⟨.hbm, 249, rfl⟩
abbrev main_call7_v11 : Ref sig .tc := ⟨.hbm, 250, rfl⟩
abbrev main_call7_c_7 : Ref sig .tc := ⟨.hbm, 251, rfl⟩
abbrev main_call7_v12 : Ref sig .tc := ⟨.hbm, 252, rfl⟩
abbrev main_call7_c_8 : Ref sig .tc := ⟨.hbm, 253, rfl⟩
abbrev main_call7_c_9 : Ref sig .tc := ⟨.hbm, 254, rfl⟩
abbrev main_call7_v13 : Ref sig .tc := ⟨.hbm, 255, rfl⟩
abbrev main_call7_v14 : Ref sig .tc := ⟨.hbm, 256, rfl⟩
abbrev main_call7_v15 : Ref sig .tc := ⟨.hbm, 257, rfl⟩
abbrev main_call7_c_10 : Ref sig .tc := ⟨.hbm, 258, rfl⟩
abbrev main_call7_v16 : Ref sig .tc := ⟨.hbm, 259, rfl⟩
abbrev main_call7_v17 : Ref sig .tc := ⟨.hbm, 260, rfl⟩
abbrev main_call7_c_11 : Ref sig .tc := ⟨.hbm, 261, rfl⟩
abbrev main_call7_v18 : Ref sig .tc := ⟨.hbm, 262, rfl⟩
abbrev main_call7_v19 : Ref sig .tc := ⟨.hbm, 263, rfl⟩
abbrev main_call7_v20 : Ref sig .tc := ⟨.hbm, 264, rfl⟩
abbrev main_call7_c_12 : Ref sig .tc := ⟨.hbm, 265, rfl⟩
abbrev main_call7_v21 : Ref sig .tc := ⟨.hbm, 266, rfl⟩
abbrev main_call7_c_13 : Ref sig .tc := ⟨.hbm, 267, rfl⟩
abbrev main_call7_v22 : Ref sig .tc := ⟨.hbm, 268, rfl⟩
abbrev main_call7_v23 : Ref sig .tc := ⟨.hbm, 269, rfl⟩
abbrev main_call7_v24 : Ref sig .tc := ⟨.hbm, 270, rfl⟩
abbrev main_call7_v25 : Ref sig .tc := ⟨.hbm, 271, rfl⟩
abbrev main_call7_v26 : Ref sig .tc := ⟨.hbm, 272, rfl⟩
abbrev main_v17 : Ref sig .tc := ⟨.hbm, 273, rfl⟩
abbrev main_v18 : Ref sig .tc := ⟨.hbm, 274, rfl⟩
abbrev main_v19 : Ref sig .tc := ⟨.hbm, 275, rfl⟩
abbrev main_v20 : Ref sig .tc := ⟨.hbm, 276, rfl⟩
abbrev main_v21 : Ref sig .tc := ⟨.hbm, 277, rfl⟩
abbrev main_v22 : Ref sig .tc := ⟨.hbm, 278, rfl⟩
abbrev main_v23 : Ref sig .tc := ⟨.hbm, 279, rfl⟩
abbrev main_v24 : Ref sig .tc := ⟨.hbm, 280, rfl⟩
abbrev main_v25_0 : Ref sig .tc := ⟨.hbm, 281, rfl⟩
abbrev main_v25_1 : Ref sig .tc := ⟨.hbm, 282, rfl⟩
abbrev main_v25_2 : Ref sig .tc := ⟨.hbm, 283, rfl⟩
abbrev main_v25_3 : Ref sig .tc := ⟨.hbm, 284, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [BitOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v235 : BitVec 1 := Scalar.cmpi .eq arg0 c0_i32
  let v236 : BitVec 32 := Scalar.extui v235
  let c0_i32_25 : BitVec 32 := 0#32
  let v237 : BitVec 1 := Scalar.cmpi .ne v236 c0_i32_25
  v237

def k0_cond2 (i : grid0.Coords) : BitVec 1 :=
  let arg0 : BitVec 32 := BitVec.ofNat 32 (i 0).val
  let c0_i32_26 : BitVec 32 := 0#32
  let v238 : BitVec 1 := Scalar.cmpi .sgt arg0 c0_i32_26
  let v239 : BitVec 32 := Scalar.extui v238
  let c0_i32_27 : BitVec 32 := 0#32
  let v240 : BitVec 1 := Scalar.cmpi .ne v239 c0_i32_27
  v240

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x7168 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ScalesReference.lean ====
abbrev S24x640x7168 : Shape := ⟨3, ![24, 640, 7168]⟩
abbrev S24x640x4096 : Shape := ⟨3, ![24, 640, 4096]⟩
abbrev S2048x7168 : Shape := ⟨2, ![2048, 7168]⟩
abbrev S_ : Shape := ⟨0, ![]⟩
abbrev S16 : Shape := ⟨1, ![16]⟩
abbrev S15360x7168 : Shape := ⟨2, ![15360, 7168]⟩
abbrev S1x1 : Shape := ⟨2, ![1, 1]⟩

abbrev nBuf : Space → Nat
  | .hbm => 273
  | .vmem => 3
  | .smem => 0
  | _ => 0

abbrev hbmTy0_0 (i : Nat) : BufTy := match i % 128 with
  | 0 => ⟨S24x640x7168, .bf16⟩
  | 1 => ⟨S24x640x4096, .bf16⟩
  | 2 => ⟨S2048x7168, .fp8e4m3⟩
  | 3 => ⟨S_, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .f32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .f32⟩
  | 44 => ⟨S_, .f32⟩
  | 45 => ⟨S_, .i1⟩
  | 46 => ⟨S_, .i32⟩
  | 47 => ⟨S_, .i32⟩
  | 48 => ⟨S_, .i32⟩
  | 49 => ⟨S_, .f32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .f32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .f32⟩
  | 93 => ⟨S_, .i32⟩
  | 94 => ⟨S_, .f32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .f32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S24x640x7168, .bf16⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .f32⟩
  | 10 => ⟨S_, .f32⟩
  | 11 => ⟨S_, .f32⟩
  | 12 => ⟨S_, .f32⟩
  | 13 => ⟨S_, .f32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .f32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .f32⟩
  | 48 => ⟨S_, .f32⟩
  | 49 => ⟨S_, .i1⟩
  | 50 => ⟨S_, .i32⟩
  | 51 => ⟨S_, .i32⟩
  | 52 => ⟨S_, .i32⟩
  | 53 => ⟨S_, .f32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .f32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .f32⟩
  | 97 => ⟨S_, .i32⟩
  | 98 => ⟨S_, .f32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .f32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S24x640x7168, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .f32⟩
  | 14 => ⟨S15360x7168, .bf16⟩
  | 15 => ⟨S1x1, .f32⟩
  | 16 => ⟨S15360x7168, .fp8e5m2⟩
  | _ => ⟨S24x640x7168, .bf16⟩

abbrev hbmTy (i : Nat) : BufTy := match i / 128 with
  | 0 => hbmTy0_0 i
  | 1 => hbmTy0_1 i
  | 2 => hbmTy0_2 i
  | _ => ⟨S24x640x7168, .bf16⟩

abbrev bufTy : (tb : Table) → Fin (tcTables nBuf tb) → BufTy
  | .hbm, ⟨i, _⟩ => hbmTy i
  | .local _ .vmem, ⟨0, _⟩ => ⟨S15360x7168, .bf16⟩
  | .local _ .vmem, ⟨1, _⟩ => ⟨S1x1, .f32⟩
  | .local _ .vmem, ⟨2, _⟩ => ⟨S15360x7168, .fp8e5m2⟩
  | _, _ => ⟨S24x640x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_c_1 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_c_3 : Ref sig .tc := ⟨.hbm, 22, rfl⟩
abbrev main_call0_v8 : Ref sig .tc := ⟨.hbm, 23, rfl⟩
abbrev main_call0_c_4 : Ref sig .tc := ⟨.hbm, 24, rfl⟩
abbrev main_call0_v9 : Ref sig .tc := ⟨.hbm, 25, rfl⟩
abbrev main_call0_c_5 : Ref sig .tc := ⟨.hbm, 26, rfl⟩
abbrev main_call0_v10 : Ref sig .tc := ⟨.hbm, 27, rfl⟩
abbrev main_call0_c_6 : Ref sig .tc := ⟨.hbm, 28, rfl⟩
abbrev main_call0_v11 : Ref sig .tc := ⟨.hbm, 29, rfl⟩
abbrev main_call0_c_7 : Ref sig .tc := ⟨.hbm, 30, rfl⟩
abbrev main_call0_v12 : Ref sig .tc := ⟨.hbm, 31, rfl⟩
abbrev main_call0_c_8 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_c_9 : Ref sig .tc := ⟨.hbm, 39, rfl⟩
abbrev main_call0_v19 : Ref sig .tc := ⟨.hbm, 40, rfl⟩
abbrev main_call0_c_10 : Ref sig .tc := ⟨.hbm, 41, rfl⟩
abbrev main_v2_1 : Ref sig .tc := ⟨.hbm, 42, rfl⟩
abbrev main_v2_0 : Ref sig .tc := ⟨.hbm, 43, rfl⟩
abbrev main_cst_1 : Ref sig .tc := ⟨.hbm, 44, rfl⟩
abbrev main_v3 : Ref sig .tc := ⟨.hbm, 45, rfl⟩
abbrev main_c : Ref sig .tc := ⟨.hbm, 46, rfl⟩
abbrev main_call1_v0 : Ref sig .tc := ⟨.hbm, 47, rfl⟩
abbrev main_v4 : Ref sig .tc := ⟨.hbm, 48, rfl⟩
abbrev main_cst_2 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_c_1 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_c_3 : Ref sig .tc := ⟨.hbm, 62, rfl⟩
abbrev main_call2_v8 : Ref sig .tc := ⟨.hbm, 63, rfl⟩
abbrev main_call2_c_4 : Ref sig .tc := ⟨.hbm, 64, rfl⟩
abbrev main_call2_v9 : Ref sig .tc := ⟨.hbm, 65, rfl⟩
abbrev main_call2_c_5 : Ref sig .tc := ⟨.hbm, 66, rfl⟩
abbrev main_call2_v10 : Ref sig .tc := ⟨.hbm, 67, rfl⟩
abbrev main_call2_c_6 : Ref sig .tc := ⟨.hbm, 68, rfl⟩
abbrev main_call2_v11 : Ref sig .tc := ⟨.hbm, 69, rfl⟩
abbrev main_call2_c_7 : Ref sig .tc := ⟨.hbm, 70, rfl⟩
abbrev main_call2_v12 : Ref sig .tc := ⟨.hbm, 71, rfl⟩
abbrev main_call2_c_8 : Ref sig .tc := ⟨.hbm, 72, rfl⟩
abbrev main_call2_c_9 : Ref sig .tc := ⟨.hbm, 73, rfl⟩
abbrev main_call2_v13 : Ref sig .tc := ⟨.hbm, 74, rfl⟩
abbrev main_call2_v14 : Ref sig .tc := ⟨.hbm, 75, rfl⟩
abbrev main_call2_v15 : Ref sig .tc := ⟨.hbm, 76, rfl⟩
abbrev main_call2_c_10 : Ref sig .tc := ⟨.hbm, 77, rfl⟩
abbrev main_call2_v16 : Ref sig .tc := ⟨.hbm, 78, rfl⟩
abbrev main_call2_v17 : Ref sig .tc := ⟨.hbm, 79, rfl⟩
abbrev main_call2_c_11 : Ref sig .tc := ⟨.hbm, 80, rfl⟩
abbrev main_call2_v18 : Ref sig .tc := ⟨.hbm, 81, rfl⟩
abbrev main_call2_v19 : Ref sig .tc := ⟨.hbm, 82, rfl⟩
abbrev main_call2_v20 : Ref sig .tc := ⟨.hbm, 83, rfl⟩
abbrev main_call2_c_12 : Ref sig .tc := ⟨.hbm, 84, rfl⟩
abbrev main_call2_v21 : Ref sig .tc := ⟨.hbm, 85, rfl⟩
abbrev main_call2_c_13 : Ref sig .tc := ⟨.hbm, 86, rfl⟩
abbrev main_call2_v22 : Ref sig .tc := ⟨.hbm, 87, rfl⟩
abbrev main_call2_v23 : Ref sig .tc := ⟨.hbm, 88, rfl⟩
abbrev main_call2_v24 : Ref sig .tc := ⟨.hbm, 89, rfl⟩
abbrev main_call2_v25 : Ref sig .tc := ⟨.hbm, 90, rfl⟩
abbrev main_call2_v26 : Ref sig .tc := ⟨.hbm, 91, rfl⟩
abbrev main_v5 : Ref sig .tc := ⟨.hbm, 92, rfl⟩
abbrev main_v6 : Ref sig .tc := ⟨.hbm, 93, rfl⟩
abbrev main_cst_3 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_c_1 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_c_2 : Ref sig .tc := ⟨.hbm, 105, rfl⟩
abbrev main_call3_v7 : Ref sig .tc := ⟨.hbm, 106, rfl⟩
abbrev main_call3_c_3 : Ref sig .tc := ⟨.hbm, 107, rfl⟩
abbrev main_call3_v8 : Ref sig .tc := ⟨.hbm, 108, rfl⟩
abbrev main_call3_c_4 : Ref sig .tc := ⟨.hbm, 109, rfl⟩
abbrev main_call3_v9 : Ref sig .tc := ⟨.hbm, 110, rfl⟩
abbrev main_call3_c_5 : Ref sig .tc := ⟨.hbm, 111, rfl⟩
abbrev main_call3_v10 : Ref sig .tc := ⟨.hbm, 112, rfl⟩
abbrev main_call3_c_6 : Ref sig .tc := ⟨.hbm, 113, rfl⟩
abbrev main_call3_v11 : Ref sig .tc := ⟨.hbm, 114, rfl⟩
abbrev main_call3_c_7 : Ref sig .tc := ⟨.hbm, 115, rfl⟩
abbrev main_call3_v12 : Ref sig .tc := ⟨.hbm, 116, rfl⟩
abbrev main_call3_c_8 : Ref sig .tc := ⟨.hbm, 117, rfl⟩
abbrev main_call3_c_9 : Ref sig .tc := ⟨.hbm, 118, rfl⟩
abbrev main_call3_v13 : Ref sig .tc := ⟨.hbm, 119, rfl⟩
abbrev main_call3_v14 : Ref sig .tc := ⟨.hbm, 120, rfl⟩
abbrev main_call3_v15 : Ref sig .tc := ⟨.hbm, 121, rfl⟩
abbrev main_call3_c_10 : Ref sig .tc := ⟨.hbm, 122, rfl⟩
abbrev main_call3_v16 : Ref sig .tc := ⟨.hbm, 123, rfl⟩
abbrev main_call3_v17 : Ref sig .tc := ⟨.hbm, 124, rfl⟩
abbrev main_call3_c_11 : Ref sig .tc := ⟨.hbm, 125, rfl⟩
abbrev main_call3_v18 : Ref sig .tc := ⟨.hbm, 126, rfl⟩
abbrev main_call3_v19 : Ref sig .tc := ⟨.hbm, 127, rfl⟩
abbrev main_call3_v20 : Ref sig .tc := ⟨.hbm, 128, rfl⟩
abbrev main_call3_c_12 : Ref sig .tc := ⟨.hbm, 129, rfl⟩
abbrev main_call3_v21 : Ref sig .tc := ⟨.hbm, 130, rfl⟩
abbrev main_call3_c_13 : Ref sig .tc := ⟨.hbm, 131, rfl⟩
abbrev main_call3_v22 : Ref sig .tc := ⟨.hbm, 132, rfl⟩
abbrev main_call3_v23 : Ref sig .tc := ⟨.hbm, 133, rfl⟩
abbrev main_call3_v24 : Ref sig .tc := ⟨.hbm, 134, rfl⟩
abbrev main_call3_v25 : Ref sig .tc := ⟨.hbm, 135, rfl⟩
abbrev main_call3_v26 : Ref sig .tc := ⟨.hbm, 136, rfl⟩
abbrev main_v7 : Ref sig .tc := ⟨.hbm, 137, rfl⟩
abbrev main_cst_4 : Ref sig .tc := ⟨.hbm, 138, rfl⟩
abbrev main_v8 : Ref sig .tc := ⟨.hbm, 139, rfl⟩
abbrev main_cst_5 : Ref sig .tc := ⟨.hbm, 140, rfl⟩
abbrev main_v9 : Ref sig .tc := ⟨.hbm, 141, rfl⟩
abbrev main_call4_v0 : Ref sig .tc := ⟨.hbm, 142, rfl⟩
abbrev main_call4_c : Ref sig .tc := ⟨.hbm, 143, rfl⟩
abbrev main_call4_v1 : Ref sig .tc := ⟨.hbm, 144, rfl⟩
abbrev main_call4_c_0 : Ref sig .tc := ⟨.hbm, 145, rfl⟩
abbrev main_call4_v2 : Ref sig .tc := ⟨.hbm, 146, rfl⟩
abbrev main_call4_c_1 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_c_2 : Ref sig .tc := ⟨.hbm, 152, rfl⟩
abbrev main_call4_v7 : Ref sig .tc := ⟨.hbm, 153, rfl⟩
abbrev main_call4_c_3 : Ref sig .tc := ⟨.hbm, 154, rfl⟩
abbrev main_call4_v8 : Ref sig .tc := ⟨.hbm, 155, rfl⟩
abbrev main_call4_c_4 : Ref sig .tc := ⟨.hbm, 156, rfl⟩
abbrev main_call4_v9 : Ref sig .tc := ⟨.hbm, 157, rfl⟩
abbrev main_call4_c_5 : Ref sig .tc := ⟨.hbm, 158, rfl⟩
abbrev main_call4_v10 : Ref sig .tc := ⟨.hbm, 159, rfl⟩
abbrev main_call4_c_6 : Ref sig .tc := ⟨.hbm, 160, rfl⟩
abbrev main_call4_v11 : Ref sig .tc := ⟨.hbm, 161, rfl⟩
abbrev main_call4_c_7 : Ref sig .tc := ⟨.hbm, 162, rfl⟩
abbrev main_call4_v12 : Ref sig .tc := ⟨.hbm, 163, rfl⟩
abbrev main_call4_c_8 : Ref sig .tc := ⟨.hbm, 164, rfl⟩
abbrev main_call4_v13 : Ref sig .tc := ⟨.hbm, 165, rfl⟩
abbrev main_call4_v14 : Ref sig .tc := ⟨.hbm, 166, rfl⟩
abbrev main_call4_v15 : Ref sig .tc := ⟨.hbm, 167, rfl⟩
abbrev main_call4_v16 : Ref sig .tc := ⟨.hbm, 168, rfl⟩
abbrev main_call4_v17 : Ref sig .tc := ⟨.hbm, 169, rfl⟩
abbrev main_call4_v18 : Ref sig .tc := ⟨.hbm, 170, rfl⟩
abbrev main_call4_c_9 : Ref sig .tc := ⟨.hbm, 171, rfl⟩
abbrev main_call4_v19 : Ref sig .tc := ⟨.hbm, 172, rfl⟩
abbrev main_call4_c_10 : Ref sig .tc := ⟨.hbm, 173, rfl⟩
abbrev main_v10_1 : Ref sig .tc := ⟨.hbm, 174, rfl⟩
abbrev main_v10_0 : Ref sig .tc := ⟨.hbm, 175, rfl⟩
abbrev main_cst_6 : Ref sig .tc := ⟨.hbm, 176, rfl⟩
abbrev main_v11 : Ref sig .tc := ⟨.hbm, 177, rfl⟩
abbrev main_c_7 : Ref sig .tc := ⟨.hbm, 178, rfl⟩
abbrev main_call5_v0 : Ref sig .tc := ⟨.hbm, 179, rfl⟩
abbrev main_v12 : Ref sig .tc := ⟨.hbm, 180, rfl⟩
abbrev main_cst_8 : Ref sig .tc := ⟨.hbm, 181, rfl⟩
abbrev main_call6_v0 : Ref sig .tc := ⟨.hbm, 182, rfl⟩
abbrev main_call6_c : Ref sig .tc := ⟨.hbm, 183, rfl⟩
abbrev main_call6_v1 : Ref sig .tc := ⟨.hbm, 184, rfl⟩
abbrev main_call6_c_0 : Ref sig .tc := ⟨.hbm, 185, rfl⟩
abbrev main_call6_v2 : Ref sig .tc := ⟨.hbm, 186, rfl⟩
abbrev main_call6_c_1 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_c_2 : Ref sig .tc := ⟨.hbm, 192, rfl⟩
abbrev main_call6_v7 : Ref sig .tc := ⟨.hbm, 193, rfl⟩
abbrev main_call6_c_3 : Ref sig .tc := ⟨.hbm, 194, rfl⟩
abbrev main_call6_v8 : Ref sig .tc := ⟨.hbm, 195, rfl⟩
abbrev main_call6_c_4 : Ref sig .tc := ⟨.hbm, 196, rfl⟩
abbrev main_call6_v9 : Ref sig .tc := ⟨.hbm, 197, rfl⟩
abbrev main_call6_c_5 : Ref sig .tc := ⟨.hbm, 198, rfl⟩
abbrev main_call6_v10 : Ref sig .tc := ⟨.hbm, 199, rfl⟩
abbrev main_call6_c_6 : Ref sig .tc := ⟨.hbm, 200, rfl⟩
abbrev main_call6_v11 : Ref sig .tc := ⟨.hbm, 201, rfl⟩
abbrev main_call6_c_7 : Ref sig .tc := ⟨.hbm, 202, rfl⟩
abbrev main_call6_v12 : Ref sig .tc := ⟨.hbm, 203, rfl⟩
abbrev main_call6_c_8 : Ref sig .tc := ⟨.hbm, 204, rfl⟩
abbrev main_call6_c_9 : Ref sig .tc := ⟨.hbm, 205, rfl⟩
abbrev main_call6_v13 : Ref sig .tc := ⟨.hbm, 206, rfl⟩
abbrev main_call6_v14 : Ref sig .tc := ⟨.hbm, 207, rfl⟩
abbrev main_call6_v15 : Ref sig .tc := ⟨.hbm, 208, rfl⟩
abbrev main_call6_c_10 : Ref sig .tc := ⟨.hbm, 209, rfl⟩
abbrev main_call6_v16 : Ref sig .tc := ⟨.hbm, 210, rfl⟩
abbrev main_call6_v17 : Ref sig .tc := ⟨.hbm, 211, rfl⟩
abbrev main_call6_c_11 : Ref sig .tc := ⟨.hbm, 212, rfl⟩
abbrev main_call6_v18 : Ref sig .tc := ⟨.hbm, 213, rfl⟩
abbrev main_call6_v19 : Ref sig .tc := ⟨.hbm, 214, rfl⟩
abbrev main_call6_v20 : Ref sig .tc := ⟨.hbm, 215, rfl⟩
abbrev main_call6_c_12 : Ref sig .tc := ⟨.hbm, 216, rfl⟩
abbrev main_call6_v21 : Ref sig .tc := ⟨.hbm, 217, rfl⟩
abbrev main_call6_c_13 : Ref sig .tc := ⟨.hbm, 218, rfl⟩
abbrev main_call6_v22 : Ref sig .tc := ⟨.hbm, 219, rfl⟩
abbrev main_call6_v23 : Ref sig .tc := ⟨.hbm, 220, rfl⟩
abbrev main_call6_v24 : Ref sig .tc := ⟨.hbm, 221, rfl⟩
abbrev main_call6_v25 : Ref sig .tc := ⟨.hbm, 222, rfl⟩
abbrev main_call6_v26 : Ref sig .tc := ⟨.hbm, 223, rfl⟩
abbrev main_v13 : Ref sig .tc := ⟨.hbm, 224, rfl⟩
abbrev main_v14 : Ref sig .tc := ⟨.hbm, 225, rfl⟩
abbrev main_cst_9 : Ref sig .tc := ⟨.hbm, 226, rfl⟩
abbrev main_call7_v0 : Ref sig .tc := ⟨.hbm, 227, rfl⟩
abbrev main_call7_c : Ref sig .tc := ⟨.hbm, 228, rfl⟩
abbrev main_call7_v1 : Ref sig .tc := ⟨.hbm, 229, rfl⟩
abbrev main_call7_c_0 : Ref sig .tc := ⟨.hbm, 230, rfl⟩
abbrev main_call7_v2 : Ref sig .tc := ⟨.hbm, 231, rfl⟩
abbrev main_call7_c_1 : Ref sig .tc := ⟨.hbm, 232, rfl⟩
abbrev main_call7_v3 : Ref sig .tc := ⟨.hbm, 233, rfl⟩
abbrev main_call7_v4 : Ref sig .tc := ⟨.hbm, 234, rfl⟩
abbrev main_call7_v5 : Ref sig .tc := ⟨.hbm, 235, rfl⟩
abbrev main_call7_v6 : Ref sig .tc := ⟨.hbm, 236, rfl⟩
abbrev main_call7_c_2 : Ref sig .tc := ⟨.hbm, 237, rfl⟩
abbrev main_call7_v7 : Ref sig .tc := ⟨.hbm, 238, rfl⟩
abbrev main_call7_c_3 : Ref sig .tc := ⟨.hbm, 239, rfl⟩
abbrev main_call7_v8 : Ref sig .tc := ⟨.hbm, 240, rfl⟩
abbrev main_call7_c_4 : Ref sig .tc := ⟨.hbm, 241, rfl⟩
abbrev main_call7_v9 : Ref sig .tc := ⟨.hbm, 242, rfl⟩
abbrev main_call7_c_5 : Ref sig .tc := ⟨.hbm, 243, rfl⟩
abbrev main_call7_v10 : Ref sig .tc := ⟨.hbm, 244, rfl⟩
abbrev main_call7_c_6 : Ref sig .tc := ⟨.hbm, 245, rfl⟩
abbrev main_call7_v11 : Ref sig .tc := ⟨.hbm, 246, rfl⟩
abbrev main_call7_c_7 : Ref sig .tc := ⟨.hbm, 247, rfl⟩
abbrev main_call7_v12 : Ref sig .tc := ⟨.hbm, 248, rfl⟩
abbrev main_call7_c_8 : Ref sig .tc := ⟨.hbm, 249, rfl⟩
abbrev main_call7_c_9 : Ref sig .tc := ⟨.hbm, 250, rfl⟩
abbrev main_call7_v13 : Ref sig .tc := ⟨.hbm, 251, rfl⟩
abbrev main_call7_v14 : Ref sig .tc := ⟨.hbm, 252, rfl⟩
abbrev main_call7_v15 : Ref sig .tc := ⟨.hbm, 253, rfl⟩
abbrev main_call7_c_10 : Ref sig .tc := ⟨.hbm, 254, rfl⟩
abbrev main_call7_v16 : Ref sig .tc := ⟨.hbm, 255, rfl⟩
abbrev main_call7_v17 : Ref sig .tc := ⟨.hbm, 256, rfl⟩
abbrev main_call7_c_11 : Ref sig .tc := ⟨.hbm, 257, rfl⟩
abbrev main_call7_v18 : Ref sig .tc := ⟨.hbm, 258, rfl⟩
abbrev main_call7_v19 : Ref sig .tc := ⟨.hbm, 259, rfl⟩
abbrev main_call7_v20 : Ref sig .tc := ⟨.hbm, 260, rfl⟩
abbrev main_call7_c_12 : Ref sig .tc := ⟨.hbm, 261, rfl⟩
abbrev main_call7_v21 : Ref sig .tc := ⟨.hbm, 262, rfl⟩
abbrev main_call7_c_13 : Ref sig .tc := ⟨.hbm, 263, rfl⟩
abbrev main_call7_v22 : Ref sig .tc := ⟨.hbm, 264, rfl⟩
abbrev main_call7_v23 : Ref sig .tc := ⟨.hbm, 265, rfl⟩
abbrev main_call7_v24 : Ref sig .tc := ⟨.hbm, 266, rfl⟩
abbrev main_call7_v25 : Ref sig .tc := ⟨.hbm, 267, rfl⟩
abbrev main_call7_v26 : Ref sig .tc := ⟨.hbm, 268, rfl⟩
abbrev main_v15 : Ref sig .tc := ⟨.hbm, 269, rfl⟩
abbrev main_v16 : Ref sig .tc := ⟨.hbm, 270, rfl⟩
abbrev main_v17 : Ref sig .tc := ⟨.hbm, 271, rfl⟩
abbrev main_v18 : Ref sig .tc := ⟨.hbm, 272, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S15360x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x7168 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelRegion0.lean ====
/- Pipeline 0 of Kernel (`dgrad1`) at any entry contents `V`: the body's triple in each case of its
   conditionals, what the outputs' buffers hold after each point (`outsAt0`; the two running maxima carry over from
   the point before), the proof data `dat0` and its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dgrad1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x20000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cond0_1 (grid0.coords t) → cfg0.fresh 6 t.val = false := by
  intro t; rw [fresh0_6_eq t]; revert t; decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x20000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 4, through which its contents are stated (`View.read_writes_of_cover`: the
    choice does not matter). -/
abbrev VO0_4 : View sig .tc .vmem S512x7168 .fp8e5m2 := (Memref.whole cc0_stg4_0 : Memref sig .tc .vmem S512x7168 .fp8e5m2).view
/-- One staging buffer of output window 5, through which its contents are stated (`View.read_writes_of_cover`: the
    choice does not matter). -/
abbrev VO0_5 : View sig .tc .vmem S512x4096 .fp8e5m2 := (Memref.whole cc0_stg5_0 : Memref sig .tc .vmem S512x4096 .fp8e5m2).view
/-- One staging buffer of output window 6, through which its contents are stated (`View.read_writes_of_cover`: the
    choice does not matter). -/
abbrev VO0_6 : View sig .tc .vmem S8x128 .f32 := (Memref.whole cc0_stg6_0 : Memref sig .tc .vmem S8x128 .f32).view
/-- One staging buffer of output window 7, through which its contents are stated (`View.read_writes_of_cover`: the
    choice does not matter). -/
abbrev VO0_7 : View sig .tc .vmem S8x128 .f32 := (Memref.whole cc0_stg7_0 : Memref sig .tc .vmem S8x128 .f32).view
/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x7168 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) :
    Σ' (L4 : List (View.Piece (Elt F) S512x7168 .fp8e5m2)), Σ' (L5 : List (View.Piece (Elt F) S512x4096 .fp8e5m2)), Σ' (L6 : List (View.Piece (Elt F) S8x128 .f32)), { L7 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_dgrad1 i arg1 harg1 arg2 harg2 arg3 harg3 arg4 harg4 arg5 harg5 arg6 harg6 arg7 harg7 arg8 harg8) K } := by
  refine ⟨?_, ?_, ?_, ?_, fun E K => ?run⟩
  case run =>
    simp only [cc0_dgrad1_eq_skeleton]; unfold cc0_dgrad1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- Case A's pieces for output 4 tile its block (1 store of `S512x7168`, checked by the kernel's evaluation: Lib/Ring.lean `Piece.tiledL`, linear in the pieces, through a loop's `@[irreducible]` trip theorem too), so they cover it. -/
theorem cover0_A_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S512x7168.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S512x7168.size (by sl_kernel_rfl) y

/-- What case A leaves in output 4's staging buffer: its pieces read back over junk. -/
def out0_A_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S512x7168 .fp8e5m2 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- Case A's pieces for output 5 tile its block (2 stores of `S512x2048`, checked by the kernel's evaluation: Lib/Ring.lean `Piece.tiledL`, linear in the pieces, through a loop's `@[irreducible]` trip theorem too), so they cover it. -/
theorem cover0_A_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S512x4096.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S512x2048.size (by sl_kernel_rfl) y

/-- What case A leaves in output 5's staging buffer: its pieces read back over junk. -/
def out0_A_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S512x4096 .fp8e5m2 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- Case A's pieces for output 6 tile its block (1 store of `S8x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S8x128.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S8x128.size (by sl_kernel_rfl) y

/-- What case A leaves in output 6's staging buffer: its pieces read back over junk. -/
def out0_A_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S8x128 .f32 :=
  VO0_6.read (Elt F) (VO0_6.writes (Elt F) VO0_6.junk (kernelRun0_A c i arg1 harg1 arg2 harg2 arg3 harg3 arg4 harg4 arg5 harg5 arg6 harg6 arg7 harg7 arg8 harg8 hc0 hc1 x0 x1 x2 x3).2.2.1)

/-- Case A's pieces for output 7 tile its block (1 store of `S8x128`, checked by the kernel's evaluation: Lib/Ring.lean `Piece.tiledL`, linear in the pieces, through a loop's `@[irreducible]` trip theorem too), so they cover it. -/
theorem cover0_A_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S8x128.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S8x128.size (by sl_kernel_rfl) y

/-- What case A leaves in output 7's staging buffer: its pieces read back over junk. -/
def out0_A_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S8x128 .f32 :=
  VO0_7.read (Elt F) (VO0_7.writes (Elt F) VO0_7.junk (kernelRun0_A c i arg1 harg1 arg2 harg2 arg3 harg3 arg4 harg4 arg5 harg5 arg6 harg6 arg7 harg7 arg8 harg8 hc0 hc1 x0 x1 x2 x3).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 29: 29 of 30), WITH the
    proof that on whole staging memrefs — the inputs' at their contents, the outputs it reads before covering (6, 7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) :
    Σ' (L4 : List (View.Piece (Elt F) S512x7168 .fp8e5m2)), Σ' (L5 : List (View.Piece (Elt F) S512x4096 .fp8e5m2)), Σ' (L6 : List (View.Piece (Elt F) S8x128 .f32)), { L7 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_dgrad1 i arg1 harg1 arg2 harg2 arg3 harg3 arg4 harg4 arg5 harg5 arg6 harg6 arg7 harg7 arg8 harg8) K } := by
  refine ⟨?_, ?_, ?_, ?_, fun E K => ?run⟩
  case run =>
    simp only [cc0_dgrad1_eq_skeleton]; unfold cc0_dgrad1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- Case B's pieces for output 4 tile its block (1 store of `S512x7168`, checked by the kernel's evaluation: Lib/Ring.lean `Piece.tiledL`, linear in the pieces, through a loop's `@[irreducible]` trip theorem too), so they cover it. -/
theorem cover0_B_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S512x7168.Idx) :
    ∃ pc ∈ (kernelRun0_B c i arg1 harg1 arg2 harg2 arg3 harg3 arg4 harg4 arg5 harg5 arg6 harg6 arg7 harg7 arg8 harg8 hc0 hc1 x0 x1 x2 x3 xo6 xo7).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).1 S512x7168.size (by sl_kernel_rfl) y

/-- What case B leaves in output 4's staging buffer: its pieces read back over junk. -/
def out0_B_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S512x7168 .fp8e5m2 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xo6 xo7).1)

/-- Case B's pieces for output 5 tile its block (2 stores of `S512x2048`, checked by the kernel's evaluation: Lib/Ring.lean `Piece.tiledL`, linear in the pieces, through a loop's `@[irreducible]` trip theorem too), so they cover it. -/
theorem cover0_B_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S512x4096.Idx) :
    ∃ pc ∈ (kernelRun0_B c i arg1 harg1 arg2 harg2 arg3 harg3 arg4 harg4 arg5 harg5 arg6 harg6 arg7 harg7 arg8 harg8 hc0 hc1 x0 x1 x2 x3 xo6 xo7).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).2.1 S512x2048.size (by sl_kernel_rfl) y

/-- What case B leaves in output 5's staging buffer: its pieces read back over junk. -/
def out0_B_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S512x4096 .fp8e5m2 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xo6 xo7).2.1)

/-- Case B's pieces for output 6 tile its block (1 store of `S8x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S8x128.Idx) :
    ∃ pc ∈ (kernelRun0_B c i arg1 harg1 arg2 harg2 arg3 harg3 arg4 harg4 arg5 harg5 arg6 harg6 arg7 harg7 arg8 harg8 hc0 hc1 x0 x1 x2 x3 xo6 xo7).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).2.2.1 S8x128.size (by sl_kernel_rfl) y

/-- What case B leaves in output 6's staging buffer: its pieces read back over junk. -/
def out0_B_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S8x128 .f32 :=
  VO0_6.read (Elt F) (VO0_6.writes (Elt F) VO0_6.junk (kernelRun0_B c i arg1 harg1 arg2 harg2 arg3 harg3 arg4 harg4 arg5 harg5 arg6 harg6 arg7 harg7 arg8 harg8 hc0 hc1 x0 x1 x2 x3 xo6 xo7).2.2.1)

/-- Case B's pieces for output 7 tile its block (1 store of `S8x128`, checked by the kernel's evaluation: Lib/Ring.lean `Piece.tiledL`, linear in the pieces, through a loop's `@[irreducible]` trip theorem too), so they cover it. -/
theorem cover0_B_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S8x128.Idx) :
    ∃ pc ∈ (kernelRun0_B c i arg1 harg1 arg2 harg2 arg3 harg3 arg4 harg4 arg5 harg5 arg6 harg6 arg7 harg7 arg8 harg8 hc0 hc1 x0 x1 x2 x3 xo6 xo7).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).2.2.2.1 S8x128.size (by sl_kernel_rfl) y

/-- What case B leaves in output 7's staging buffer: its pieces read back over junk. -/
def out0_B_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S8x128 .f32 :=
  VO0_7.read (Elt F) (VO0_7.writes (Elt F) VO0_7.junk (kernelRun0_B c i arg1 harg1 arg2 harg2 arg3 harg3 arg4 harg4 arg5 harg5 arg6 harg6 arg7 harg7 arg8 harg8 hc0 hc1 x0 x1 x2 x3 xo6 xo7).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x7168 .fp8e5m2 × Vec F S512x4096 .fp8e5m2 × Vec F S8x128 .f32 × Vec F S8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 30 = 0 then
      if h1 : 1 ≤ (n + 1) then
        False.elim (by have hN : n + 1 < 30 := lt_of_lt_of_eq hn (show cfg0.N = 30 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : 1 ≤ (n + 1) then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
      else
        False.elim (by have hN : n + 1 < 30 := lt_of_lt_of_eq hn (show cfg0.N = 30 from N_0); omega)

/-- `outsAt0` at a point of case A: that case's contents. -/
theorem outsAt0_A (c : Dev nD) (t : Fin cfg0.N) (h0 : t.val % 30 = 0) (h1 : ¬1 ≤ t.val) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 30 = 0) (h1 : 1 ≤ t.val) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dat0 V c).after 6 t = (dat0 V c).after 6 ⟨t.val - 1, by omega⟩ := by
  intro t _ hi _
  have hN : t.val < 30 := lt_of_lt_of_eq t.isLt (show cfg0.N = 30 from N_0)
  rw [after0_6, after0_6]
  by_cases h0 : t.val % 30 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 30 := lt_of_lt_of_eq t.isLt (show cfg0.N = 30 from N_0)
  rw [after0_7, after0_7]
  by_cases h0 : t.val % 30 = 0
  · by_cases h1 : 1 ≤ t.val
    · exfalso; omega
    · rw [liveAt0_7_A t ((hcond0_0 t).mpr h0) (fun h => h1 ((hcond0_1 t).mp h))] at hi
      exact absurd hi Bool.false_ne_true
  · by_cases h1 : 1 ≤ t.val
    · rw [liveAt0_7_B t (fun h => h0 ((hcond0_0 t).mp h)) ((hcond0_1 t).mpr h1)] at hi
      exact absurd hi Bool.false_ne_true
    · exfalso; omega
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 30 = 0) (h1 : 1 ≤ t.val) (d) :
    (dat0 V c).before 6 t d = (outsAt0 V c (t.val - 1) (Nat.lt_of_le_of_lt (Nat.sub_le _ _) t.isLt)).2.2.1 := by
  rw [Dat.before_out_traj _ 6 rfl (fun _ _ => rfl) (hcarry0_6 V c) t.val t rfl d,
    if_neg (by rw [notFresh0_6_B t (fun h => h0 ((hcond0_0 t).mp h)) ((hcond0_1 t).mpr h1)]; exact Bool.false_ne_true)]
  dsimp only [dat0]
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 30 = 0) (h1 : 1 ≤ t.val) (d) :
    (dat0 V c).before 7 t d = (outsAt0 V c (t.val - 1) (Nat.lt_of_le_of_lt (Nat.sub_le _ _) t.isLt)).2.2.2 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl]
  have hN : t.val < 30 := lt_of_lt_of_eq t.isLt (show cfg0.N = 30 from N_0)
  by_cases h0 : t.val % 30 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_A t ((hcond0_0 t).mpr h0) (fun h => h1 ((hcond0_1 t).mp h))], after0_6]
      rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h))], after0_7]
      rw [outsAt0_A V c t h0 h1]
      unfold out0_A_4 out0_A_5 out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iintro ⟨H0, H1, H2, H3, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_B t (fun h => h0 ((hcond0_0 t).mp h)) ((hcond0_1 t).mpr h1)], after0_6]
      rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1)], after0_7]
      rw [outsAt0_B V c t h0 h1]
      simp only [before0_6_B V c t h0 h1, before0_7_B V c t h0 h1]
      unfold out0_B_4 out0_B_5 out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      iintro ⟨H0, H1, H2, H3, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.KernelRegions.lean ====
/- Pipelines 1, 2, 3 of Kernel (`dgrad2`, `wgrad1`, `wgrad2`) at any entry contents `V`: the body's triple,
   what the output's buffer holds after each point, the proof data and its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dgrad2` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S512x7168 .bf16 := (Memref.whole cc1_stg3_0 : Memref sig .tc .vmem S512x7168 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .fp8e5m2 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x4096 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x7168 .bf16 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) :
    { L3 : List (View.Piece (Elt F) S512x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_dgrad2 i arg1 harg1 arg2 harg2 arg3 harg3 arg4 harg4) K } := by
  refine ⟨?_, fun E K => ?run⟩
  case run =>
    simp only [cc1_dgrad2_eq_skeleton]; unfold cc1_dgrad2_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (1 store of `S512x7168`, checked by the kernel's evaluation: Lib/Ring.lean `Piece.tiledL`, linear in the pieces, through a loop's `@[irreducible]` trip theorem too), so they cover it. -/
theorem cover1_A_3 (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) (y : S512x7168.Idx) :
    ∃ pc ∈ (kernelRun1_A c i arg1 harg1 arg2 harg2 arg3 harg3 arg4 harg4 x0 x1 x2).1, y ∈ pc.1.set :=
  View.cover_of_tiledL (kernelRun1_A c i arg1 harg1 arg2 harg2 arg3 harg3 arg4 harg4 x0 x1 x2).1 S512x7168.size (by sl_kernel_rfl) y

/-- What the run leaves in output 3's staging buffer: its pieces read back over junk. -/
def out1_A_3 (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) : Vec F S512x7168 .bf16 :=
  VO1_3.read (Elt F) (VO1_3.writes (Elt F) VO1_3.junk (kernelRun1_A c i arg1 harg1 arg2 harg2 arg3 harg3 arg4 harg4 x0 x1 x2).1)

/-! ## What the outputs hold after each point -/

/-- What the outputs' staging buffers hold after the body at point `t`: the run's contents at
    the point's memrefs and input blocks. -/
def outsAt1 (c : Dev nD) (t : Fin cfg1.N) : Vec F S512x7168 .bf16 :=
  out1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_wgrad1` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 3, through which its contents are stated (`View.read_writes_of_cover`: the
    choice does not matter). -/
abbrev VO2_3 : View sig .tc .vmem S512x512 .bf16 := (Memref.whole cc2_stg3_0 : Memref sig .tc .vmem S512x512 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S15360x512 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S15360x512 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .bf16 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2_wgrad1 i arg2 harg2 arg3 harg3 arg4 harg4 arg5 harg5) K } := by
  refine ⟨?_, fun E K => ?run⟩
  case run =>
    simp only [cc2_wgrad1_eq_skeleton]; unfold cc2_wgrad1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (1 store of `S512x512`, checked by the kernel's evaluation: Lib/Ring.lean `Piece.tiledL`, linear in the pieces, through a loop's `@[irreducible]` trip theorem too), so they cover it. -/
theorem cover2_A_3 (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) (y : S512x512.Idx) :
    ∃ pc ∈ (kernelRun2_A c i arg2 harg2 arg3 harg3 arg4 harg4 arg5 harg5 x0 x1 x2).1, y ∈ pc.1.set :=
  View.cover_of_tiledL (kernelRun2_A c i arg2 harg2 arg3 harg3 arg4 harg4 arg5 harg5 x0 x1 x2).1 S512x512.size (by sl_kernel_rfl) y

/-- What the run leaves in output 3's staging buffer: its pieces read back over junk. -/
def out2_A_3 (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) : Vec F S512x512 .bf16 :=
  VO2_3.read (Elt F) (VO2_3.writes (Elt F) VO2_3.junk (kernelRun2_A c i arg2 harg2 arg3 harg3 arg4 harg4 arg5 harg5 x0 x1 x2).1)

/-! ## What the outputs hold after each point -/

/-- What the outputs' staging buffers hold after the body at point `t`: the run's contents at
    the point's memrefs and input blocks. -/
def outsAt2 (c : Dev nD) (t : Fin cfg2.N) : Vec F S512x512 .bf16 :=
  out2_A_3 c (grid2.coords t) (ms2_0 t) (hs2_0 t) (ms2_1 t) (hs2_1 t) (ms2_2 t) (hs2_2 t) (ms2_3 t) (hs2_3 t) (iblk2 V c 0 t) (iblk2 V c 1 t) (iblk2 V c 2 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outsAt2
  unfold out2_A_3
  iintro ⟨HΦ, Ho, ⟨%d0, H0⟩, ⟨%d1, H1⟩, ⟨%d2, H2⟩, ⟨%d3, H3⟩⟩
  iapply ((kernelRun2_A c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3_wgrad2` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S512x512 .bf16 := (Memref.whole cc3_stg3_0 : Memref sig .tc .vmem S512x512 .bf16).view
/-- Each window's current staging memref at point `t`, spelled as the pipeline passes it (`bodyAt3`), and its wholeness. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S15360x512 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S15360x512 .fp8e5m2 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x512 .bf16 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_wgrad2 i arg2 harg2 arg3 harg3 arg4 harg4 arg5 harg5) K } := by
  refine ⟨?_, fun E K => ?run⟩
  case run =>
    simp only [cc3_wgrad2_eq_skeleton]; unfold cc3_wgrad2_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (1 store of `S512x512`, checked by the kernel's evaluation: Lib/Ring.lean `Piece.tiledL`, linear in the pieces, through a loop's `@[irreducible]` trip theorem too), so they cover it. -/
theorem cover3_A_3 (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) (y : S512x512.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S512x512.size (by sl_kernel_rfl) y

/-- What the run leaves in output 3's staging buffer: its pieces read back over junk. -/
def out3_A_3 (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) : Vec F S512x512 .bf16 :=
  VO3_3.read (Elt F) (VO3_3.writes (Elt F) VO3_3.junk (kernelRun3_A c i arg2 harg2 arg3 harg3 arg4 harg4 arg5 harg5 x0 x1 x2).1)

/-! ## What the outputs hold after each point -/

/-- What the outputs' staging buffers hold after the body at point `t`: the run's contents at
    the point's memrefs and input blocks. -/
def outsAt3 (c : Dev nD) (t : Fin cfg3.N) : Vec F S512x512 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Gen

end
-- ==== Proof.KernelRun.lean ====
/- The run of Kernel: host stretches and the four pipelines in order, the buffer contents at every boundary
   (`W0` ... `W9`), and the frame claim `frame`. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelRegion0
public import proofs.«01_k».proof.Proof.KernelRegions

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v8, main_v9]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v15, main_v16, main_v17]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_cst, main_v19, main_v20, main_v21, main_v22, main_cst_0, main_v23, main_v24, main_v25, main_v26, main_v27, main_v28, main_v29]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`. -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)
theorem W9_main_arg9 (c : Dev nD) : W9 m ρ c (Proc.devRef .tc main_arg9) = m ((c : Thread nD τ).loc main_arg9) :=
  W9_args m ρ c main_arg9 (by decide)
theorem W9_main_arg10 (c : Dev nD) : W9 m ρ c (Proc.devRef .tc main_arg10) = m ((c : Thread nD τ).loc main_arg10) :=
  W9_args m ρ c main_arg10 (by decide)
theorem W9_main_arg11 (c : Dev nD) : W9 m ρ c (Proc.devRef .tc main_arg11) = m ((c : Thread nD τ).loc main_arg11) :=
  W9_args m ρ c main_arg11 (by decide)
theorem W9_main_arg12 (c : Dev nD) : W9 m ρ c (Proc.devRef .tc main_arg12) = m ((c : Thread nD τ).loc main_arg12) :=
  W9_args m ρ c main_arg12 (by decide)
theorem W9_main_arg13 (c : Dev nD) : W9 m ρ c (Proc.devRef .tc main_arg13) = m ((c : Thread nD τ).loc main_arg13) :=
  W9_args m ρ c main_arg13 (by decide)
theorem W9_main_arg14 (c : Dev nD) : W9 m ρ c (Proc.devRef .tc main_arg14) = m ((c : Thread nD τ).loc main_arg14) :=
  W9_args m ρ c main_arg14 (by decide)
theorem W9_main_arg15 (c : Dev nD) : W9 m ρ c (Proc.devRef .tc main_arg15) = m ((c : Thread nD τ).loc main_arg15) :=
  W9_args m ρ c main_arg15 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: at the compiled mesh, from any memory with zero counters, every weakly fair execution of @main on
    the TensorCores terminates, nothing faulting, and every final state has every unscoped buffer at the last boundary's
    contents `W9` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- The frame claim: every weakly fair execution terminates, nothing faulting, with the argument arrays as launched and
    every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun s ⟨h, hz⟩ => ⟨(fun c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩), hz⟩) (run_all m ρ)

end Cert.Kernel.Gen

end
-- ==== Proof.KernelIdealRegion0.lean ====
/- Pipeline 0 of KernelIdeal (`dgrad1`) at any entry contents `V`: the body's triple in each case of its
   conditionals, what the outputs' buffers hold after each point (`outsAt0`; the two running maxima carry over from
   the point before), the proof data `dat0` and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dgrad1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x20000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cond0_1 (grid0.coords t) → cfg0.fresh 6 t.val = false := by
  intro t; rw [fresh0_6_eq t]; revert t; decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x20000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 4, through which its contents are stated (`View.read_writes_of_cover`: the
    choice does not matter). -/
abbrev VO0_4 : View sig .tc .vmem S512x7168 .fp8e5m2 := (Memref.whole cc0_stg4_0 : Memref sig .tc .vmem S512x7168 .fp8e5m2).view
/-- One staging buffer of output window 5, through which its contents are stated (`View.read_writes_of_cover`: the
    choice does not matter). -/
abbrev VO0_5 : View sig .tc .vmem S512x4096 .fp8e5m2 := (Memref.whole cc0_stg5_0 : Memref sig .tc .vmem S512x4096 .fp8e5m2).view
/-- One staging buffer of output window 6, through which its contents are stated (`View.read_writes_of_cover`: the
    choice does not matter). -/
abbrev VO0_6 : View sig .tc .vmem S8x128 .f32 := (Memref.whole cc0_stg6_0 : Memref sig .tc .vmem S8x128 .f32).view
/-- One staging buffer of output window 7, through which its contents are stated (`View.read_writes_of_cover`: the
    choice does not matter). -/
abbrev VO0_7 : View sig .tc .vmem S8x128 .f32 := (Memref.whole cc0_stg7_0 : Memref sig .tc .vmem S8x128 .f32).view
/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x7168 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) :
    Σ' (L4 : List (View.Piece (Elt F) S512x7168 .fp8e5m2)), Σ' (L5 : List (View.Piece (Elt F) S512x4096 .fp8e5m2)), Σ' (L6 : List (View.Piece (Elt F) S8x128 .f32)), { L7 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_dgrad1 i arg1 harg1 arg2 harg2 arg3 harg3 arg4 harg4 arg5 harg5 arg6 harg6 arg7 harg7 arg8 harg8) K } := by
  refine ⟨?_, ?_, ?_, ?_, fun E K => ?run⟩
  case run =>
    simp only [cc0_dgrad1_eq_skeleton]; unfold cc0_dgrad1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- Case A's pieces for output 4 tile its block (1 store of `S512x7168`, checked by the kernel's evaluation: Lib/Ring.lean `Piece.tiledL`, linear in the pieces, through a loop's `@[irreducible]` trip theorem too), so they cover it. -/
theorem cover0_A_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S512x7168.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S512x7168.size (by sl_kernel_rfl) y

/-- What case A leaves in output 4's staging buffer: its pieces read back over junk. -/
def out0_A_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S512x7168 .fp8e5m2 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- Case A's pieces for output 5 tile its block (2 stores of `S512x2048`, checked by the kernel's evaluation: Lib/Ring.lean `Piece.tiledL`, linear in the pieces, through a loop's `@[irreducible]` trip theorem too), so they cover it. -/
theorem cover0_A_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S512x4096.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S512x2048.size (by sl_kernel_rfl) y

/-- What case A leaves in output 5's staging buffer: its pieces read back over junk. -/
def out0_A_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S512x4096 .fp8e5m2 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- Case A's pieces for output 6 tile its block (1 store of `S8x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S8x128.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S8x128.size (by sl_kernel_rfl) y

/-- What case A leaves in output 6's staging buffer: its pieces read back over junk. -/
def out0_A_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S8x128 .f32 :=
  VO0_6.read (Elt F) (VO0_6.writes (Elt F) VO0_6.junk (kernelRun0_A c i arg1 harg1 arg2 harg2 arg3 harg3 arg4 harg4 arg5 harg5 arg6 harg6 arg7 harg7 arg8 harg8 hc0 hc1 x0 x1 x2 x3).2.2.1)

/-- Case A's pieces for output 7 tile its block (1 store of `S8x128`, checked by the kernel's evaluation: Lib/Ring.lean `Piece.tiledL`, linear in the pieces, through a loop's `@[irreducible]` trip theorem too), so they cover it. -/
theorem cover0_A_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) (y : S8x128.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S8x128.size (by sl_kernel_rfl) y

/-- What case A leaves in output 7's staging buffer: its pieces read back over junk. -/
def out0_A_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 : Vec F S3 .f32) (x1 : Vec F S512x7168 .bf16) (x2 : Vec F S512x4096 .bf16) (x3 : Vec F S2048x7168 .fp8e4m3) : Vec F S8x128 .f32 :=
  VO0_7.read (Elt F) (VO0_7.writes (Elt F) VO0_7.junk (kernelRun0_A c i arg1 harg1 arg2 harg2 arg3 harg3 arg4 harg4 arg5 harg5 arg6 harg6 arg7 harg7 arg8 harg8 hc0 hc1 x0 x1 x2 x3).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 29: 29 of 30), WITH the
    proof that on whole staging memrefs — the inputs' at their contents, the outputs it reads before covering (6, 7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) :
    Σ' (L4 : List (View.Piece (Elt F) S512x7168 .fp8e5m2)), Σ' (L5 : List (View.Piece (Elt F) S512x4096 .fp8e5m2)), Σ' (L6 : List (View.Piece (Elt F) S8x128 .f32)), { L7 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_dgrad1 i arg1 harg1 arg2 harg2 arg3 harg3 arg4 harg4 arg5 harg5 arg6 harg6 arg7 harg7 arg8 harg8) K } := by
  refine ⟨?_, ?_, ?_, ?_, fun E K => ?run⟩
  case run =>
    simp only [cc0_dgrad1_eq_skeleton]; unfold cc0_dgrad1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- Case B's pieces for output 4 tile its block (1 store of `S512x7168`, checked by the kernel's evaluation: Lib/Ring.lean `Piece.tiledL`, linear in the pieces, through a loop's `@[irreducible]` trip theorem too), so they cover it. -/
theorem cover0_B_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S512x7168.Idx) :
    ∃ pc ∈ (kernelRun0_B c i arg1 harg1 arg2 harg2 arg3 harg3 arg4 harg4 arg5 harg5 arg6 harg6 arg7 harg7 arg8 harg8 hc0 hc1 x0 x1 x2 x3 xo6 xo7).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).1 S512x7168.size (by sl_kernel_rfl) y

/-- What case B leaves in output 4's staging buffer: its pieces read back over junk. -/
def out0_B_4 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S512x7168 .fp8e5m2 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xo6 xo7).1)

/-- Case B's pieces for output 5 tile its block (2 stores of `S512x2048`, checked by the kernel's evaluation: Lib/Ring.lean `Piece.tiledL`, linear in the pieces, through a loop's `@[irreducible]` trip theorem too), so they cover it. -/
theorem cover0_B_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S512x4096.Idx) :
    ∃ pc ∈ (kernelRun0_B c i arg1 harg1 arg2 harg2 arg3 harg3 arg4 harg4 arg5 harg5 arg6 harg6 arg7 harg7 arg8 harg8 hc0 hc1 x0 x1 x2 x3 xo6 xo7).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).2.1 S512x2048.size (by sl_kernel_rfl) y

/-- What case B leaves in output 5's staging buffer: its pieces read back over junk. -/
def out0_B_5 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S512x4096 .fp8e5m2 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xo6 xo7).2.1)

/-- Case B's pieces for output 6 tile its block (1 store of `S8x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S8x128.Idx) :
    ∃ pc ∈ (kernelRun0_B c i arg1 harg1 arg2 harg2 arg3 harg3 arg4 harg4 arg5 harg5 arg6 harg6 arg7 harg7 arg8 harg8 hc0 hc1 x0 x1 x2 x3 xo6 xo7).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).2.2.1 S8x128.size (by sl_kernel_rfl) y

/-- What case B leaves in output 6's staging buffer: its pieces read back over junk. -/
def out0_B_6 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S8x128 .f32 :=
  VO0_6.read (Elt F) (VO0_6.writes (Elt F) VO0_6.junk (kernelRun0_B c i arg1 harg1 arg2 harg2 arg3 harg3 arg4 harg4 arg5 harg5 arg6 harg6 arg7 harg7 arg8 harg8 hc0 hc1 x0 x1 x2 x3 xo6 xo7).2.2.1)

/-- Case B's pieces for output 7 tile its block (1 store of `S8x128`, checked by the kernel's evaluation: Lib/Ring.lean `Piece.tiledL`, linear in the pieces, through a loop's `@[irreducible]` trip theorem too), so they cover it. -/
theorem cover0_B_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) (y : S8x128.Idx) :
    ∃ pc ∈ (kernelRun0_B c i arg1 harg1 arg2 harg2 arg3 harg3 arg4 harg4 arg5 harg5 arg6 harg6 arg7 harg7 arg8 harg8 hc0 hc1 x0 x1 x2 x3 xo6 xo7).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xo6 xo7).2.2.2.1 S8x128.size (by sl_kernel_rfl) y

/-- What case B leaves in output 7's staging buffer: its pieces read back over junk. -/
def out0_B_7 (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 : Vec F S3 .f32) (x1 : Vec F S512x7168 .bf16) (x2 : Vec F S512x4096 .bf16) (x3 : Vec F S2048x7168 .fp8e4m3) (xo6 : Vec F S8x128 .f32) (xo7 : Vec F S8x128 .f32) : Vec F S8x128 .f32 :=
  VO0_7.read (Elt F) (VO0_7.writes (Elt F) VO0_7.junk (kernelRun0_B c i arg1 harg1 arg2 harg2 arg3 harg3 arg4 harg4 arg5 harg5 arg6 harg6 arg7 harg7 arg8 harg8 hc0 hc1 x0 x1 x2 x3 xo6 xo7).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x7168 .fp8e5m2 × Vec F S512x4096 .fp8e5m2 × Vec F S8x128 .f32 × Vec F S8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 30 = 0 then
      if h1 : 1 ≤ (n + 1) then
        False.elim (by have hN : n + 1 < 30 := lt_of_lt_of_eq hn (show cfg0.N = 30 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : 1 ≤ (n + 1) then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
      else
        False.elim (by have hN : n + 1 < 30 := lt_of_lt_of_eq hn (show cfg0.N = 30 from N_0); omega)

/-- `outsAt0` at a point of case A: that case's contents. -/
theorem outsAt0_A (c : Dev nD) (t : Fin cfg0.N) (h0 : t.val % 30 = 0) (h1 : ¬1 ≤ t.val) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 30 = 0) (h1 : 1 ≤ t.val) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dat0 V c).after 6 t = (dat0 V c).after 6 ⟨t.val - 1, by omega⟩ := by
  intro t _ hi _
  have hN : t.val < 30 := lt_of_lt_of_eq t.isLt (show cfg0.N = 30 from N_0)
  rw [after0_6, after0_6]
  by_cases h0 : t.val % 30 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 30 := lt_of_lt_of_eq t.isLt (show cfg0.N = 30 from N_0)
  rw [after0_7, after0_7]
  by_cases h0 : t.val % 30 = 0
  · by_cases h1 : 1 ≤ t.val
    · exfalso; omega
    · rw [liveAt0_7_A t ((hcond0_0 t).mpr h0) (fun h => h1 ((hcond0_1 t).mp h))] at hi
      exact absurd hi Bool.false_ne_true
  · by_cases h1 : 1 ≤ t.val
    · rw [liveAt0_7_B t (fun h => h0 ((hcond0_0 t).mp h)) ((hcond0_1 t).mpr h1)] at hi
      exact absurd hi Bool.false_ne_true
    · exfalso; omega
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 30 = 0) (h1 : 1 ≤ t.val) (d) :
    (dat0 V c).before 6 t d = (outsAt0 V c (t.val - 1) (Nat.lt_of_le_of_lt (Nat.sub_le _ _) t.isLt)).2.2.1 := by
  rw [Dat.before_out_traj _ 6 rfl (fun _ _ => rfl) (hcarry0_6 V c) t.val t rfl d,
    if_neg (by rw [notFresh0_6_B t (fun h => h0 ((hcond0_0 t).mp h)) ((hcond0_1 t).mpr h1)]; exact Bool.false_ne_true)]
  dsimp only [dat0]
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 30 = 0) (h1 : 1 ≤ t.val) (d) :
    (dat0 V c).before 7 t d = (outsAt0 V c (t.val - 1) (Nat.lt_of_le_of_lt (Nat.sub_le _ _) t.isLt)).2.2.2 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl]
  have hN : t.val < 30 := lt_of_lt_of_eq t.isLt (show cfg0.N = 30 from N_0)
  by_cases h0 : t.val % 30 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_A t ((hcond0_0 t).mpr h0) (fun h => h1 ((hcond0_1 t).mp h))], after0_6]
      rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h))], after0_7]
      rw [outsAt0_A V c t h0 h1]
      unfold out0_A_4 out0_A_5 out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iintro ⟨H0, H1, H2, H3, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_B t (fun h => h0 ((hcond0_0 t).mp h)) ((hcond0_1 t).mpr h1)], after0_6]
      rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1)], after0_7]
      rw [outsAt0_B V c t h0 h1]
      simp only [before0_6_B V c t h0 h1, before0_7_B V c t h0 h1]
      unfold out0_B_4 out0_B_5 out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      iintro ⟨H0, H1, H2, H3, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRegions.lean ====
/- Pipelines 1, 2, 3 of KernelIdeal (`dgrad2`, `wgrad1`, `wgrad2`) at any entry contents `V`: the body's triple,
   what the output's buffer holds after each point, the proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dgrad2` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S512x7168 .bf16 := (Memref.whole cc1_stg3_0 : Memref sig .tc .vmem S512x7168 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .fp8e5m2 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x4096 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x7168 .bf16 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) :
    { L3 : List (View.Piece (Elt F) S512x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_dgrad2 i arg1 harg1 arg2 harg2 arg3 harg3 arg4 harg4) K } := by
  refine ⟨?_, fun E K => ?run⟩
  case run =>
    simp only [cc1_dgrad2_eq_skeleton]; unfold cc1_dgrad2_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (1 store of `S512x7168`, checked by the kernel's evaluation: Lib/Ring.lean `Piece.tiledL`, linear in the pieces, through a loop's `@[irreducible]` trip theorem too), so they cover it. -/
theorem cover1_A_3 (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) (y : S512x7168.Idx) :
    ∃ pc ∈ (kernelRun1_A c i arg1 harg1 arg2 harg2 arg3 harg3 arg4 harg4 x0 x1 x2).1, y ∈ pc.1.set :=
  View.cover_of_tiledL (kernelRun1_A c i arg1 harg1 arg2 harg2 arg3 harg3 arg4 harg4 x0 x1 x2).1 S512x7168.size (by sl_kernel_rfl) y

/-- What the run leaves in output 3's staging buffer: its pieces read back over junk. -/
def out1_A_3 (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) : Vec F S512x7168 .bf16 :=
  VO1_3.read (Elt F) (VO1_3.writes (Elt F) VO1_3.junk (kernelRun1_A c i arg1 harg1 arg2 harg2 arg3 harg3 arg4 harg4 x0 x1 x2).1)

/-! ## What the outputs hold after each point -/

/-- What the outputs' staging buffers hold after the body at point `t`: the run's contents at
    the point's memrefs and input blocks. -/
def outsAt1 (c : Dev nD) (t : Fin cfg1.N) : Vec F S512x7168 .bf16 :=
  out1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_wgrad1` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 3, through which its contents are stated (`View.read_writes_of_cover`: the
    choice does not matter). -/
abbrev VO2_3 : View sig .tc .vmem S512x512 .bf16 := (Memref.whole cc2_stg3_0 : Memref sig .tc .vmem S512x512 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S15360x512 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S15360x512 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .bf16 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2_wgrad1 i arg2 harg2 arg3 harg3 arg4 harg4 arg5 harg5) K } := by
  refine ⟨?_, fun E K => ?run⟩
  case run =>
    simp only [cc2_wgrad1_eq_skeleton]; unfold cc2_wgrad1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (1 store of `S512x512`, checked by the kernel's evaluation: Lib/Ring.lean `Piece.tiledL`, linear in the pieces, through a loop's `@[irreducible]` trip theorem too), so they cover it. -/
theorem cover2_A_3 (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) (y : S512x512.Idx) :
    ∃ pc ∈ (kernelRun2_A c i arg2 harg2 arg3 harg3 arg4 harg4 arg5 harg5 x0 x1 x2).1, y ∈ pc.1.set :=
  View.cover_of_tiledL (kernelRun2_A c i arg2 harg2 arg3 harg3 arg4 harg4 arg5 harg5 x0 x1 x2).1 S512x512.size (by sl_kernel_rfl) y

/-- What the run leaves in output 3's staging buffer: its pieces read back over junk. -/
def out2_A_3 (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) : Vec F S512x512 .bf16 :=
  VO2_3.read (Elt F) (VO2_3.writes (Elt F) VO2_3.junk (kernelRun2_A c i arg2 harg2 arg3 harg3 arg4 harg4 arg5 harg5 x0 x1 x2).1)

/-! ## What the outputs hold after each point -/

/-- What the outputs' staging buffers hold after the body at point `t`: the run's contents at
    the point's memrefs and input blocks. -/
def outsAt2 (c : Dev nD) (t : Fin cfg2.N) : Vec F S512x512 .bf16 :=
  out2_A_3 c (grid2.coords t) (ms2_0 t) (hs2_0 t) (ms2_1 t) (hs2_1 t) (ms2_2 t) (hs2_2 t) (ms2_3 t) (hs2_3 t) (iblk2 V c 0 t) (iblk2 V c 1 t) (iblk2 V c 2 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outsAt2
  unfold out2_A_3
  iintro ⟨HΦ, Ho, ⟨%d0, H0⟩, ⟨%d1, H1⟩, ⟨%d2, H2⟩, ⟨%d3, H3⟩⟩
  iapply ((kernelRun2_A c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3_wgrad2` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S512x512 .bf16 := (Memref.whole cc3_stg3_0 : Memref sig .tc .vmem S512x512 .bf16).view
/-- Each window's current staging memref at point `t`, spelled as the pipeline passes it (`bodyAt3`), and its wholeness. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S15360x512 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S15360x512 .fp8e5m2 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x512 .bf16 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_wgrad2 i arg2 harg2 arg3 harg3 arg4 harg4 arg5 harg5) K } := by
  refine ⟨?_, fun E K => ?run⟩
  case run =>
    simp only [cc3_wgrad2_eq_skeleton]; unfold cc3_wgrad2_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (1 store of `S512x512`, checked by the kernel's evaluation: Lib/Ring.lean `Piece.tiledL`, linear in the pieces, through a loop's `@[irreducible]` trip theorem too), so they cover it. -/
theorem cover3_A_3 (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) (y : S512x512.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S512x512.size (by sl_kernel_rfl) y

/-- What the run leaves in output 3's staging buffer: its pieces read back over junk. -/
def out3_A_3 (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) : Vec F S512x512 .bf16 :=
  VO3_3.read (Elt F) (VO3_3.writes (Elt F) VO3_3.junk (kernelRun3_A c i arg2 harg2 arg3 harg3 arg4 harg4 arg5 harg5 x0 x1 x2).1)

/-! ## What the outputs hold after each point -/

/-- What the outputs' staging buffers hold after the body at point `t`: the run's contents at
    the point's memrefs and input blocks. -/
def outsAt3 (c : Dev nD) (t : Fin cfg3.N) : Vec F S512x512 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.KernelIdealRun.lean ====
/- The run of KernelIdeal: host stretches and the four pipelines in order, the buffer contents at every boundary
   (`W0` ... `W9`), and the frame claim `frame`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdealRegion0
public import proofs.«01_k».proof.Proof.KernelIdealRegions

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v8, main_v9]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v15, main_v16, main_v17]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_cst, main_v19, main_v20, main_v21, main_v22, main_cst_0, main_v23, main_v24, main_v25, main_v26, main_v27, main_v28, main_v29]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`. -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)
theorem W9_main_arg9 (c : Dev nD) : W9 m ρ c (Proc.devRef .tc main_arg9) = m ((c : Thread nD τ).loc main_arg9) :=
  W9_args m ρ c main_arg9 (by decide)
theorem W9_main_arg10 (c : Dev nD) : W9 m ρ c (Proc.devRef .tc main_arg10) = m ((c : Thread nD τ).loc main_arg10) :=
  W9_args m ρ c main_arg10 (by decide)
theorem W9_main_arg11 (c : Dev nD) : W9 m ρ c (Proc.devRef .tc main_arg11) = m ((c : Thread nD τ).loc main_arg11) :=
  W9_args m ρ c main_arg11 (by decide)
theorem W9_main_arg12 (c : Dev nD) : W9 m ρ c (Proc.devRef .tc main_arg12) = m ((c : Thread nD τ).loc main_arg12) :=
  W9_args m ρ c main_arg12 (by decide)
theorem W9_main_arg13 (c : Dev nD) : W9 m ρ c (Proc.devRef .tc main_arg13) = m ((c : Thread nD τ).loc main_arg13) :=
  W9_args m ρ c main_arg13 (by decide)
theorem W9_main_arg14 (c : Dev nD) : W9 m ρ c (Proc.devRef .tc main_arg14) = m ((c : Thread nD τ).loc main_arg14) :=
  W9_args m ρ c main_arg14 (by decide)
theorem W9_main_arg15 (c : Dev nD) : W9 m ρ c (Proc.devRef .tc main_arg15) = m ((c : Thread nD τ).loc main_arg15) :=
  W9_args m ρ c main_arg15 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: at the compiled mesh, from any memory with zero counters, every weakly fair execution of @main on
    the TensorCores terminates, nothing faulting, and every final state has every unscoped buffer at the last boundary's
    contents `W9` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- The frame claim: every weakly fair execution terminates, nothing faulting, with the argument arrays as launched and
    every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun s ⟨h, hz⟩ => ⟨(fun c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩), hz⟩) (run_all m ρ)

end Cert.KernelIdeal.Gen

end
-- ==== Proof.Math.lean ====
/- The mathematics both programs compute, over the extended reals, as functions of whole matrices of any number of
   rows: the quantiser, the two gradients of the gated activation, the products, and the largest absolute value. A
   product of the kernel's tile and of the reference's whole matrix are the same function here, at two row counts. -/
module

public import Idealize.ShloMosaic.Lib.Pointwise

@[expose] public section

noncomputable section

namespace Cert.Math

open Idealize.ShloMosaic

/-- A matrix of `a` rows and `b` columns. -/
abbrev Mat (a b : Nat) := (⟨2, ![a, b]⟩ : Shape).Idx → EReal

/-- The quantiser's clip to the largest finite float8_e5m2, ± 57344. -/
def clip (v : EReal) : EReal := min (Ideal.ofBits .f32 0x47600000#32) (max (Ideal.ofBits .f32 0xC7600000#32) v)

/-- The largest absolute value starts at minus infinity. -/
def ninf : EReal := Ideal.ofBits .f32 0xFF800000#32

/-- The absolute value. -/
def abs (v : EReal) : EReal := max v (-v)

/-- The codes of a matrix under an inverse scale: each element scaled, then clipped. -/
def codes {a b : Nat} (v : Mat a b) (inv : EReal) : Mat a b := fun i => clip (v i * inv)

/-- `x · wᵀ` scaled by `s`: the sum over the columns of both. -/
def mulT {a k b : Nat} (x : Mat a k) (w : Mat b k) (s : EReal) : Mat a b :=
  fun i => (∑ l : Fin k, x (ix2 (i 0) l) * w (ix2 (i 1) l)) * s

/-- `xᵀ · y` scaled by `s`: the sum over the rows of both. -/
def tMul {k a b : Nat} (x : Mat k a) (y : Mat k b) (s : EReal) : Mat a b :=
  fun i => (∑ l : Fin k, x (ix2 l (i 0)) * y (ix2 l (i 1))) * s

/-- The gate half of a matrix of 4096 columns. -/
def gate {n : Nat} (gu : Mat n 4096) : Mat n 2048 := fun i => gu (ix2 (i 0) ⟨(i 1).val, by have : (i 1).val < 2048 := (i 1).isLt; omega⟩)
/-- The up half of a matrix of 4096 columns. -/
def up {n : Nat} (gu : Mat n 4096) : Mat n 2048 := fun i => gu (ix2 (i 0) ⟨2048 + (i 1).val, by have : (i 1).val < 2048 := (i 1).isLt; omega⟩)
/-- A gate half and an up half side by side. -/
def both {n : Nat} (x y : Mat n 2048) : Mat n 4096 := fun i =>
  if h : (i 1).val < 2048 then x (ix2 (i 0) ⟨(i 1).val, h⟩)
  else y (ix2 (i 0) ⟨(i 1).val - 2048, by have : (i 1).val < 4096 := (i 1).isLt; omega⟩)

/-- The gradient of the gate half of silu(g)·u from the activation's gradient `a`. -/
def dg {n : Nat} (a g u : Mat n 2048) : Mat n 2048 := fun i =>
  a i * u i * Ideal.logistic (g i) * (1 + g i * (1 - Ideal.logistic (g i)))
/-- The gradient of the up half. -/
def du {n : Nat} (a g : Mat n 2048) : Mat n 2048 := fun i => a i * g i * Ideal.logistic (g i)

/-- The activation's gradient: the dy codes times W2, scaled back. -/
def dA {n : Nat} (dy : Mat n 7168) (w2 : Mat 2048 7168) (inv s : EReal) : Mat n 2048 := mulT (codes dy inv) w2 s

/-- The gradient of the gate and up projections, both halves. -/
def dH {n : Nat} (dy : Mat n 7168) (gu : Mat n 4096) (w2 : Mat 2048 7168) (inv s : EReal) : Mat n 4096 :=
  both (dg (dA dy w2 inv s) (gate gu) (up gu)) (du (dA dy w2 inv s) (gate gu))

/-- Rows 512·t … 512·t + 511 of a matrix of 15360 rows. -/
def rows {b : Nat} (x : Mat 15360 b) (t : Fin 30) : Mat 512 b :=
  fun i => x (ix2 ⟨t.val * 512 + (i 0).val, by have : (i 0).val < 512 := (i 0).isLt; omega⟩ (i 1))

theorem codes_rows {b : Nat} (x : Mat 15360 b) (inv : EReal) (t : Fin 30) : codes (rows x t) inv = rows (codes x inv) t := rfl
theorem mulT_rows {k b : Nat} (x : Mat 15360 k) (w : Mat b k) (s : EReal) (t : Fin 30) : mulT (rows x t) w s = rows (mulT x w s) t := rfl
/-- A block of rows of dH is dH of the blocks of rows: the activation works on each row by itself. -/
theorem dH_rows (dy : Mat 15360 7168) (gu : Mat 15360 4096) (w2 : Mat 2048 7168) (inv s : EReal) (t : Fin 30) :
    dH (rows dy t) (rows gu t) w2 inv s = rows (dH dy gu w2 inv s) t := rfl

/-- The 512 columns of a matrix from column `o` on. -/
def cols {a b : Nat} (x : Mat a b) (o : Nat) (h : o + 512 ≤ b) : Mat a 512 :=
  fun i => x (ix2 (i 0) ⟨o + (i 1).val, by have : (i 1).val < 512 := (i 1).isLt; omega⟩)
/-- The 512 x 512 tile of a matrix from row `o` and column `o'` on. -/
def tile {a b : Nat} (z : Mat a b) (o o' : Nat) (h : o + 512 ≤ a) (h' : o' + 512 ≤ b) : Mat 512 512 :=
  fun i => z (ix2 ⟨o + (i 0).val, by have : (i 0).val < 512 := (i 0).isLt; omega⟩ ⟨o' + (i 1).val, by have : (i 1).val < 512 := (i 1).isLt; omega⟩)
theorem tMul_cols {k a b : Nat} (x : Mat k a) (y : Mat k b) (s : EReal) (o o' : Nat) (h : o + 512 ≤ a) (h' : o' + 512 ≤ b) :
    tMul (cols x o h) (cols y o' h') s = tile (tMul x y s) o o' h h' := rfl

/-- `m` is the largest absolute value of `x`, no smaller than minus infinity: it is at most `y` exactly when those are. -/
def IsMax {S : Shape} (x : S.Idx → EReal) (m : EReal) : Prop := ∀ y, m ≤ y ↔ ninf ≤ y ∧ ∀ i, abs (x i) ≤ y
theorem IsMax.eq {S : Shape} {x : S.Idx → EReal} {m m' : EReal} (h : IsMax x m) (h' : IsMax x m') : m = m' :=
  eq_of_forall_ge_iff fun y => (h y).trans (h' y).symm

end Cert.Math

end
-- ==== Proof.KernelHost.lean ====
/- The operations between the kernel's four calls, read at what they write, from any contents. -/
module

public import proofs.«01_k».proof.Proof.KernelIdealRun
public import proofs.«01_k».proof.Proof.Math
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (V0 : Valuation τ sig (Elt Ideal))

/-- A scalar's value. -/
def sc (v : FVec Ideal S_ .f32) : EReal := v ix0

/-- Three scalars side by side, at each place. -/
theorem cat3_0 (a b d : FVec Ideal S_ .f32) : concatenate S3 0 [⟨S1, broadcastInDim S1 ![] bcast_S_S1 a⟩, ⟨S1, broadcastInDim S1 ![] bcast_S_S1 b⟩, ⟨S1, broadcastInDim S1 ![] bcast_S_S1 d⟩] concatenates_S1_S1_S1_S3_d0 (ix1 0) = sc a := by
  unfold sc
  pointwise
theorem cat3_1 (a b d : FVec Ideal S_ .f32) : concatenate S3 0 [⟨S1, broadcastInDim S1 ![] bcast_S_S1 a⟩, ⟨S1, broadcastInDim S1 ![] bcast_S_S1 b⟩, ⟨S1, broadcastInDim S1 ![] bcast_S_S1 d⟩] concatenates_S1_S1_S1_S3_d0 (ix1 1) = sc b := by
  unfold sc
  pointwise
theorem cat3_2 (a b d : FVec Ideal S_ .f32) : concatenate S3 0 [⟨S1, broadcastInDim S1 ![] bcast_S_S1 a⟩, ⟨S1, broadcastInDim S1 ![] bcast_S_S1 b⟩, ⟨S1, broadcastInDim S1 ![] bcast_S_S1 d⟩] concatenates_S1_S1_S1_S3_d0 (ix1 2) = sc d := by
  unfold sc
  pointwise
/-- A product of two scalars. -/
theorem sc_mulf (a b : FVec Ideal S_ .f32) : sc (mulf a b) = sc a * sc b := rfl
theorem cast1 (a : FVec Ideal S_ .f32) : shapeCast S1 a shapeCasts_S_S1 (ix1 0) = sc a := by
  unfold sc
  pointwise

/-! ## Before `dgrad1` -/

theorem ops0_v4 : after hostOps0 V0 (Proc.devRef .tc main_v4) = concatenate S3 0 [⟨S1, broadcastInDim S1 ![] bcast_S_S1 (V0 (Proc.devRef .tc main_arg13))⟩,
      ⟨S1, broadcastInDim S1 ![] bcast_S_S1 (mulf (F := Ideal) (φ := .f32) (V0 (Proc.devRef .tc main_arg12)) (V0 (Proc.devRef .tc main_arg9)))⟩,
      ⟨S1, broadcastInDim S1 ![] bcast_S_S1 (V0 (Proc.devRef .tc main_arg15))⟩] concatenates_S1_S1_S1_S3_d0 := by
  after_results <;> rfl
theorem ops0_v5 : after hostOps0 V0 (Proc.devRef .tc main_v5) = shapeCast S15360x7168 (V0 (Proc.devRef .tc main_arg0)) shapeCasts_S24x640x7168_S15360x7168 := by
  after_results <;> rfl
theorem ops0_v6 : after hostOps0 V0 (Proc.devRef .tc main_v6) = shapeCast S15360x4096 (V0 (Proc.devRef .tc main_arg1)) shapeCasts_S24x640x4096_S15360x4096 := by
  after_results <;> rfl

/-! ## Before `dgrad2`, `wgrad1` and `wgrad2` -/

theorem ops1_v9 : after hostOps1 V0 (Proc.devRef .tc main_v9) = shapeCast S1 (mulf (F := Ideal) (φ := .f32) (V0 (Proc.devRef .tc main_arg14)) (V0 (Proc.devRef .tc main_arg7))) shapeCasts_S_S1 := by
  after_results <;> rfl
theorem ops2_v12 : after hostOps2 V0 (Proc.devRef .tc main_v12) = shapeCast S15360x7168 (V0 (Proc.devRef .tc main_arg2)) shapeCasts_S24x640x7168_S15360x7168 := by
  after_results <;> rfl
theorem ops2_v13 : after hostOps2 V0 (Proc.devRef .tc main_v13) = shapeCast S1 (mulf (F := Ideal) (φ := .f32) (V0 (Proc.devRef .tc main_arg3)) (V0 (Proc.devRef .tc main_arg14))) shapeCasts_S_S1 := by
  after_results <;> rfl
theorem ops3_v16 : after hostOps3 V0 (Proc.devRef .tc main_v16) = shapeCast S15360x2048 (V0 (Proc.devRef .tc main_arg4)) shapeCasts_S24x640x2048_S15360x2048 := by
  after_results <;> rfl
theorem ops3_v17 : after hostOps3 V0 (Proc.devRef .tc main_v17) = shapeCast S1 (mulf (F := Ideal) (φ := .f32) (V0 (Proc.devRef .tc main_arg5)) (V0 (Proc.devRef .tc main_arg12))) shapeCasts_S_S1 := by
  after_results <;> rfl

/-! ## After `wgrad2` -/

/-- The largest element of an 8 x 128 array in front of the first 15 of a history of 16. -/
def roll (x : FVec Ideal S8x128 .f32) (hist : FVec Ideal S16 .f32) : FVec Ideal S16 .f32 :=
  concatenate S16 0 [⟨S1, broadcastInDim S1 ![] bcast_S_S1 (Host.reduce FloatOps.maximumf x (constant S_ .f32 0xFF800000#32) reducesTo_S8x128_S_d0_1 h_S_)⟩,
    ⟨S15, extractStridedSlice S15 ![0] hist slices_S16_S15_0⟩] concatenates_S1_S15_S16_d0

theorem ops4_v22 : after hostOps4 V0 (Proc.devRef .tc main_v22) = roll (V0 (Proc.devRef .tc main_v7_2)) (V0 (Proc.devRef .tc main_arg10)) := by
  after_results <;> rfl
theorem ops4_v26 : after hostOps4 V0 (Proc.devRef .tc main_v26) = roll (V0 (Proc.devRef .tc main_v7_3)) (V0 (Proc.devRef .tc main_arg11)) := by
  after_results <;> rfl
theorem ops4_v27 : after hostOps4 V0 (Proc.devRef .tc main_v27) = shapeCast S24x640x7168 (V0 (Proc.devRef .tc main_v10)) shapeCasts_S15360x7168_S24x640x7168 := by
  after_results <;> rfl
theorem ops4_v28 : after hostOps4 V0 (Proc.devRef .tc main_v28) = shapeCast S24x640x7168 (V0 (Proc.devRef .tc main_v7_0)) shapeCasts_S15360x7168_S24x640x7168 := by
  after_results <;> rfl
theorem ops4_v29 : after hostOps4 V0 (Proc.devRef .tc main_v29) = shapeCast S24x640x4096 (V0 (Proc.devRef .tc main_v7_1)) shapeCasts_S15360x4096_S24x640x4096 := by
  after_results <;> rfl

end Cert.KernelIdeal.Value
-- ==== Proof.BlocksMatmul.lean ====
/- What one grid point of `dgrad2`, `wgrad1` and `wgrad2` leaves in its output block: the scaled product of the two blocks
   it reads, rounded to bf16. -/
module

public import proofs.«01_k».proof.Proof.KernelIdealRegions
public import Idealize.ShloMosaic.Lib.Pipeline.Value
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- Zero offsets, however spelt. -/
theorem hz1 : (![0, 0] : Fin 2 → Nat) = fun _ => 0 := funext fun a => by fin_cases a <;> rfl

/-- The one scale, as the scalar load reads it. -/
def s (x0 : Vec F S1 .f32) : Elt F .f32 := View.ld x0 (Rect.unit (s := S1) ![0] S1.size inb_S1_S1_0) (Shape.Idx.first (s := ⟨1, S1.size⟩) (by rw [show (⟨1, S1.size⟩ : Shape).numel = 1 from numel1_S1]; exact Nat.one_pos))
theorem s_eq (x0 : Vec F S1 .f32) : s x0 = x0 (ix1 0) :=
  congrArg x0 (funext fun a => Fin.ext (by match a with | ⟨0, _⟩ => rfl))

/-- The block `dgrad2` leaves. -/
theorem out1_A3 (c : Dev nD) (i : grid1.Coords) (arg1 : Memref sig .tc .smem S1 .f32) (harg1 : arg1.IsWhole) (arg2 : Memref sig .tc .vmem S512x4096 .fp8e5m2) (harg2 : arg2.IsWhole) (arg3 : Memref sig .tc .vmem S7168x4096 .fp8e4m3) (harg3 : arg3.IsWhole) (arg4 : Memref sig .tc .vmem S512x7168 .bf16) (harg4 : arg4.IsWhole)
    (x0 : Vec F S1 .f32) (x1 : Vec F S512x4096 .fp8e5m2) (x2 : Vec F S7168x4096 .fp8e4m3) :
    out1_A_3 c i arg1 harg1 arg2 harg2 arg3 harg3 arg4 harg4 x0 x1 x2 = k1_pay1 x1 x2 (s x0) := by
  unfold out1_A_3
  rw [View.read_writes_eq_canon _ _ _ (cover1_A_3 c i arg1 harg1 arg2 harg2 arg3 harg3 arg4 harg4 x0 x1 x2)]
  unfold kernelRun1_A
  dsimp only
  rw [View.canon_unit_zero hz1]
  sl_unfold_words
  simp only [View.readAt_eq_ld, harg1.read_unread, harg2.read_unread, harg3.read_unread, View.ld_unit_zero (S := S512x4096) hz1, View.ld_unit_zero (S := S7168x4096) hz1]
  rfl

/-- The block `wgrad1` leaves. -/
theorem out2_A3 (c : Dev nD) (i : grid2.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) :
    out2_A_3 c i arg2 harg2 arg3 harg3 arg4 harg4 arg5 harg5 x0 x1 x2 = k2_pay1 x1 x2 (s x0) := by
  unfold out2_A_3
  rw [View.read_writes_eq_canon _ _ _ (cover2_A_3 c i arg2 harg2 arg3 harg3 arg4 harg4 arg5 harg5 x0 x1 x2)]
  unfold kernelRun2_A
  dsimp only
  rw [View.canon_unit_zero hz1]
  sl_unfold_words
  simp only [View.readAt_eq_ld, harg2.read_unread, harg3.read_unread, harg4.read_unread, View.ld_unit_zero (S := S15360x512) hz1, View.ld_unit_zero (S := S15360x512) hz1]
  rfl

/-- The block `wgrad2` leaves. -/
theorem out3_A3 (c : Dev nD) (i : grid3.Coords) (arg2 : Memref sig .tc .smem S1 .f32) (harg2 : arg2.IsWhole) (arg3 : Memref sig .tc .vmem S15360x512 .fp8e4m3) (harg3 : arg3.IsWhole) (arg4 : Memref sig .tc .vmem S15360x512 .fp8e5m2) (harg4 : arg4.IsWhole) (arg5 : Memref sig .tc .vmem S512x512 .bf16) (harg5 : arg5.IsWhole)
    (x0 : Vec F S1 .f32) (x1 : Vec F S15360x512 .fp8e4m3) (x2 : Vec F S15360x512 .fp8e5m2) :
    out3_A_3 c i arg2 harg2 arg3 harg3 arg4 harg4 arg5 harg5 x0 x1 x2 = k3_pay1 x1 x2 (s x0) := by
  unfold out3_A_3
  rw [View.read_writes_eq_canon _ _ _ (cover3_A_3 c i arg2 harg2 arg3 harg3 arg4 harg4 arg5 harg5 x0 x1 x2)]
  unfold kernelRun3_A
  dsimp only
  rw [View.canon_unit_zero hz1]
  sl_unfold_words
  simp only [View.readAt_eq_ld, harg2.read_unread, harg3.read_unread, harg4.read_unread, View.ld_unit_zero (S := S15360x512) hz1, View.ld_unit_zero (S := S15360x512) hz1]
  rfl

end Cert.KernelIdeal.Value

end
-- ==== Proof.BlocksDgrad1.lean ====
/- What one grid point of `dgrad1` leaves in its output blocks, as payloads of the blocks it reads: the dy codes, the
   two halves of the dH codes side by side, and the two 8 x 128 maxima (started at point 0, folded after it). -/
module

public import proofs.«01_k».proof.Proof.KernelIdealRegion0
public import Idealize.ShloMosaic.Lib.Pipeline.Value
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- Zero offsets, however spelt. -/
theorem hz0 : (![0, 0] : Fin 2 → Nat) = fun _ => 0 := funext fun a => by fin_cases a <;> rfl

/-- The three scales, as the scalar loads read them. -/
def s0 (x0 : Vec F S3 .f32) : Elt F .f32 := View.ld x0 (Rect.unit (s := S3) ![0] S1.size inb_S3_S1_0) (Shape.Idx.first (s := ⟨1, S1.size⟩) (by rw [show (⟨1, S1.size⟩ : Shape).numel = 1 from numel1_S1]; exact Nat.one_pos))
def s1 (x0 : Vec F S3 .f32) : Elt F .f32 := View.ld x0 (Rect.unit (s := S3) ![1] S1.size inb_S3_S1_1) (Shape.Idx.first (s := ⟨1, S1.size⟩) (by rw [show (⟨1, S1.size⟩ : Shape).numel = 1 from numel1_S1]; exact Nat.one_pos))
def s2 (x0 : Vec F S3 .f32) : Elt F .f32 := View.ld x0 (Rect.unit (s := S3) ![2] S1.size inb_S3_S1_2) (Shape.Idx.first (s := ⟨1, S1.size⟩) (by rw [show (⟨1, S1.size⟩ : Shape).numel = 1 from numel1_S1]; exact Nat.one_pos))
theorem s0_eq (x0 : Vec F S3 .f32) : s0 x0 = x0 (ix1 0) :=
  congrArg x0 (funext fun a => Fin.ext (by match a with | ⟨0, _⟩ => rfl))
theorem s1_eq (x0 : Vec F S3 .f32) : s1 x0 = x0 (ix1 1) :=
  congrArg x0 (funext fun a => Fin.ext (by match a with | ⟨0, _⟩ => rfl))
theorem s2_eq (x0 : Vec F S3 .f32) : s2 x0 = x0 (ix1 2) :=
  congrArg x0 (funext fun a => Fin.ext (by match a with | ⟨0, _⟩ => rfl))

/-- The gate half of a block of `gu`. -/
def gB (x2 : Vec F S512x4096 .bf16) : Vec F S512x2048 .bf16 :=
  View.ld x2 (Rect.unit (s := S512x4096) ![0, 0] S512x2048.size inb_S512x4096_S512x2048_0_0)
/-- The up half of a block of `gu`. -/
def uB (x2 : Vec F S512x4096 .bf16) : Vec F S512x2048 .bf16 :=
  View.ld x2 (Rect.unit (s := S512x4096) ![0, 2048] S512x2048.size inb_S512x4096_S512x2048_0_2048)
/-- The block's dy codes. -/
def yB (x0 : Vec F S3 .f32) (x1 : Vec F S512x7168 .bf16) : Vec F S512x7168 .fp8e5m2 :=
  k0_pay12 (k0_pay5 x1) (s0 x0)
/-- The block's gradient of the gate half. -/
def dgB (x0 : Vec F S3 .f32) (x1 : Vec F S512x7168 .bf16) (x2 : Vec F S512x4096 .bf16) (x3 : Vec F S2048x7168 .fp8e4m3) : FVec F S512x2048 .f32 :=
  k0_pay16 (k0_pay5 x1) (s0 x0) x3 (s1 x0) (gB x2) (uB x2)
/-- The block's gradient of the up half. -/
def duB (x0 : Vec F S3 .f32) (x1 : Vec F S512x7168 .bf16) (x2 : Vec F S512x4096 .bf16) (x3 : Vec F S2048x7168 .fp8e4m3) : FVec F S512x2048 .f32 :=
  k0_pay17 (k0_pay5 x1) (s0 x0) x3 (s1 x0) (gB x2)
/-- The block's dH codes: the gate half's, then the up half's. -/
def hB (x0 : Vec F S3 .f32) (x1 : Vec F S512x7168 .bf16) (x2 : Vec F S512x4096 .bf16) (x3 : Vec F S2048x7168 .fp8e4m3) : Vec F S512x4096 .fp8e5m2 :=
  fun i => if h : (i 1).val < 2048 then k0_pay1 (dgB x0 x1 x2 x3) (s2 x0) (ix2 (i 0) ⟨(i 1).val, h⟩)
    else k0_pay2 (duB x0 x1 x2 x3) (s2 x0) (ix2 (i 0) ⟨(i 1).val - 2048, by have : (i 1).val < 4096 := (i 1).isLt; omega⟩)
/-- The block's 8 x 128 maximum of |dy|. -/
def ymB (x1 : Vec F S512x7168 .bf16) : FVec F S8x128 .f32 :=
  k0_pay11 (k0_pay9 (k0_pay6 x1) (k0_pay7 x1) (k0_pay8 x1)) (k0_pay10 (k0_pay6 x1))
/-- The block's 8 x 128 maximum of |dH|. -/
def hmB (x0 : Vec F S3 .f32) (x1 : Vec F S512x7168 .bf16) (x2 : Vec F S512x4096 .bf16) (x3 : Vec F S2048x7168 .fp8e4m3) : FVec F S8x128 .f32 :=
  k0_pay21 (duB x0 x1 x2 x3) (k0_pay18 (k0_pay5 x1) (s0 x0) x3 (s1 x0) (gB x2) (uB x2))
    (k0_pay19 (k0_pay5 x1) (s0 x0) x3 (s1 x0) (gB x2) (uB x2))
    (k0_pay20 (k0_pay5 x1) (s0 x0) x3 (s1 x0) (gB x2) (uB x2))

/-- Two pieces side by side that agree with the two halves of `hB` leave `hB`. -/
theorem canon_hB (x0 : Vec F S3 .f32) (x1 : Vec F S512x7168 .bf16) (x2 : Vec F S512x4096 .bf16) (x3 : Vec F S2048x7168 .fp8e4m3)
    (L : List (View.Piece (Elt F) S512x4096 .fp8e5m2))
    (hL : L = [⟨Rect.unit (s := S512x4096) ![0, 2048] S512x2048.size inb_S512x4096_S512x2048_0_2048, k0_pay2 (duB x0 x1 x2 x3) (s2 x0)⟩,
      ⟨Rect.unit (s := S512x4096) ![0, 0] S512x2048.size inb_S512x4096_S512x2048_0_0, k0_pay1 (dgB x0 x1 x2 x3) (s2 x0)⟩])
    (hc : ∀ y : S512x4096.Idx, ∃ p ∈ L, y ∈ p.1.set) : View.canon L = hB x0 x1 x2 x3 := by
  refine funext fun y => View.canon_apply_of_pieces (hB x0 x1 x2 x3) L ?_ y (hc y)
  subst hL
  intro p hp x
  simp only [List.mem_cons, List.not_mem_nil, or_false] at hp
  rcases hp with rfl | rfl
  · have h1 : ((Rect.unit (s := S512x4096) ![0, 2048] S512x2048.size inb_S512x4096_S512x2048_0_2048).emb x 1).val = 2048 + (x 1).val := congrArg (2048 + ·) (Nat.one_mul _)
    have h0 : ((Rect.unit (s := S512x4096) ![0, 2048] S512x2048.size inb_S512x4096_S512x2048_0_2048).emb x 0).val = (x 0).val := (congrArg (0 + ·) (Nat.one_mul _)).trans (Nat.zero_add _)
    unfold hB
    rw [dif_neg (by rw [h1]; omega)]
    refine congrArg _ (funext fun a => Fin.ext ?_)
    match a with
    | ⟨0, _⟩ => exact h0.symm
    | ⟨1, _⟩ => exact (by rw [h1]; omega : (x 1).val = ((Rect.unit (s := S512x4096) ![0, 2048] S512x2048.size inb_S512x4096_S512x2048_0_2048).emb x 1).val - 2048)
  · have h1 : ((Rect.unit (s := S512x4096) ![0, 0] S512x2048.size inb_S512x4096_S512x2048_0_0).emb x 1).val = (x 1).val := (congrArg (0 + ·) (Nat.one_mul _)).trans (Nat.zero_add _)
    have h0 : ((Rect.unit (s := S512x4096) ![0, 0] S512x2048.size inb_S512x4096_S512x2048_0_0).emb x 0).val = (x 0).val := (congrArg (0 + ·) (Nat.one_mul _)).trans (Nat.zero_add _)
    have hx : (x 1).val < 2048 := (x 1).isLt
    unfold hB
    rw [dif_pos (by rw [h1]; exact hx)]
    refine congrArg _ (funext fun a => Fin.ext ?_)
    match a with
    | ⟨0, _⟩ => exact h0.symm
    | ⟨1, _⟩ => exact h1.symm

section
variable (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole)
    (x0 : Vec F S3 .f32) (x1 : Vec F S512x7168 .bf16) (x2 : Vec F S512x4096 .bf16) (x3 : Vec F S2048x7168 .fp8e4m3) (xo6 : Vec F S8x128 .f32) (xo7 : Vec F S8x128 .f32)

/-- Output 4 at the first point: the dy codes. -/
theorem out0_A4 (hc0 : cond0_0 i) (hc1 : ¬cond0_1 i) :
    out0_A_4 c i arg1 harg1 arg2 harg2 arg3 harg3 arg4 harg4 arg5 harg5 arg6 harg6 arg7 harg7 arg8 harg8 hc0 hc1 x0 x1 x2 x3 = yB x0 x1 := by
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2 x3)]
  unfold kernelRun0_A
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 5 at the first point: the dH codes. -/
theorem out0_A5 (hc0 : cond0_0 i) (hc1 : ¬cond0_1 i) :
    out0_A_5 c i arg1 harg1 arg2 harg2 arg3 harg3 arg4 harg4 arg5 harg5 arg6 harg6 arg7 harg7 arg8 harg8 hc0 hc1 x0 x1 x2 x3 = hB x0 x1 x2 x3 := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3)]
  refine canon_hB x0 x1 x2 x3 _ ?_ (cover0_A_5 c i arg1 harg1 arg2 harg2 arg3 harg3 arg4 harg4 arg5 harg5 arg6 harg6 arg7 harg7 arg8 harg8 hc0 hc1 x0 x1 x2 x3)
  unfold kernelRun0_A
  dsimp only
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 6 at the first point: the maximum of |dy|. -/
theorem out0_A6 (hc0 : cond0_0 i) (hc1 : ¬cond0_1 i) :
    out0_A_6 c i arg1 harg1 arg2 harg2 arg3 harg3 arg4 harg4 arg5 harg5 arg6 harg6 arg7 harg7 arg8 harg8 hc0 hc1 x0 x1 x2 x3 = ymB x1 := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3)]
  unfold kernelRun0_A
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 7 at the first point: the maximum of |dH|. -/
theorem out0_A7 (hc0 : cond0_0 i) (hc1 : ¬cond0_1 i) :
    out0_A_7 c i arg1 harg1 arg2 harg2 arg3 harg3 arg4 harg4 arg5 harg5 arg6 harg6 arg7 harg7 arg8 harg8 hc0 hc1 x0 x1 x2 x3 = hmB x0 x1 x2 x3 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3)]
  unfold kernelRun0_A
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 4 at a later point: the dy codes. -/
theorem out0_B4 (hc0 : ¬cond0_0 i) (hc1 : cond0_1 i) :
    out0_B_4 c i arg1 harg1 arg2 harg2 arg3 harg3 arg4 harg4 arg5 harg5 arg6 harg6 arg7 harg7 arg8 harg8 hc0 hc1 x0 x1 x2 x3 xo6 xo7 = yB x0 x1 := by
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 x3 xo6 xo7)]
  unfold kernelRun0_B
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 5 at a later point: the dH codes. -/
theorem out0_B5 (hc0 : ¬cond0_0 i) (hc1 : cond0_1 i) :
    out0_B_5 c i arg1 harg1 arg2 harg2 arg3 harg3 arg4 harg4 arg5 harg5 arg6 harg6 arg7 harg7 arg8 harg8 hc0 hc1 x0 x1 x2 x3 xo6 xo7 = hB x0 x1 x2 x3 := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 x3 xo6 xo7)]
  refine canon_hB x0 x1 x2 x3 _ ?_ (cover0_B_5 c i arg1 harg1 arg2 harg2 arg3 harg3 arg4 harg4 arg5 harg5 arg6 harg6 arg7 harg7 arg8 harg8 hc0 hc1 x0 x1 x2 x3 xo6 xo7)
  unfold kernelRun0_B
  dsimp only
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 6 at a later point: the maximum of |dy|, folded into what the point before left. -/
theorem out0_B6 (hc0 : ¬cond0_0 i) (hc1 : cond0_1 i) :
    out0_B_6 c i arg1 harg1 arg2 harg2 arg3 harg3 arg4 harg4 arg5 harg5 arg6 harg6 arg7 harg7 arg8 harg8 hc0 hc1 x0 x1 x2 x3 xo6 xo7 = k0_pay3 (ymB x1) xo6 := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 xo6 xo7)]
  unfold kernelRun0_B
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- Output 7 at a later point: the maximum of |dH|, folded into what the point before left. -/
theorem out0_B7 (hc0 : ¬cond0_0 i) (hc1 : cond0_1 i) :
    out0_B_7 c i arg1 harg1 arg2 harg2 arg3 harg3 arg4 harg4 arg5 harg5 arg6 harg6 arg7 harg7 arg8 harg8 hc0 hc1 x0 x1 x2 x3 xo6 xo7 = k0_pay4 (hmB x0 x1 x2 x3) xo7 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 xo6 xo7)]
  unfold kernelRun0_B
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

end

end Cert.KernelIdeal.Value

end
-- ==== Proof.Payloads.lean ====
/- The payloads of one grid point, over the extended reals, as the mathematics of Math.lean on the point's blocks. -/
module

public import proofs.«01_k».proof.Proof.BlocksMatmul
public import proofs.«01_k».proof.Proof.BlocksDgrad1
public import proofs.«01_k».proof.Proof.Math

@[expose] public section

set_option maxRecDepth 16384

noncomputable section

namespace Cert.KernelIdeal.Value

open Cert.KernelIdeal Cert.KernelIdeal.Gen Idealize.ShloMosaic Idealize.ShloMosaic.TcCoe Idealize.SL.Sem
open Cert.Math (codes clip mulT tMul dg du dA dH both gate up ninf)

/-- The dy codes of a block. -/
theorem yB_eq (x0 : Vec Ideal S3 .f32) (x1 : Vec Ideal S512x7168 .bf16) : yB x0 x1 = codes x1 (x0 (ix1 0)) := by
  funext i; obtain ⟨r, l, rfl⟩ : ∃ (r : Fin 512) (l : Fin 7168), i = ix2 r l := ⟨i 0, i 1, eq_ix2 i⟩
  unfold yB codes clip
  rw [s0_eq]
  pointwise [k0_pay12, k0_pay5]

theorem pay12_eq (x1 : Vec Ideal S512x7168 .bf16) (z : Elt Ideal .f32) : k0_pay12 (k0_pay5 x1) z = codes x1 z := by
  funext i; obtain ⟨r, l, rfl⟩ : ∃ (r : Fin 512) (l : Fin 7168), i = ix2 r l := ⟨i 0, i 1, eq_ix2 i⟩
  unfold codes clip
  pointwise [k0_pay12, k0_pay5]

theorem gB_eq (x2 : Vec Ideal S512x4096 .bf16) : gB x2 = gate x2 := by
  funext i; obtain ⟨r, l, rfl⟩ : ∃ (r : Fin 512) (l : Fin 2048), i = ix2 r l := ⟨i 0, i 1, eq_ix2 i⟩
  unfold gate
  pointwise [gB]
theorem uB_eq (x2 : Vec Ideal S512x4096 .bf16) : uB x2 = up x2 := by
  funext i; obtain ⟨r, l, rfl⟩ : ∃ (r : Fin 512) (l : Fin 2048), i = ix2 r l := ⟨i 0, i 1, eq_ix2 i⟩
  unfold up
  pointwise [uB]

/-- The activation's gradient of a block. -/
theorem pay13_eq (x1 : Vec Ideal S512x7168 .bf16) (z0 z1 : Elt Ideal .f32) (x3 : Vec Ideal S2048x7168 .fp8e4m3) :
    k0_pay13 (k0_pay5 x1) z0 x3 z1 = dA x1 x3 z0 z1 := by
  funext i; obtain ⟨r, l, rfl⟩ : ∃ (r : Fin 512) (l : Fin 2048), i = ix2 r l := ⟨i 0, i 1, eq_ix2 i⟩
  unfold dA mulT
  rw [← pay12_eq]
  generalize k0_pay5 x1 = d
  unfold k0_pay13
  generalize k0_pay12 d z0 = C
  pointwise

/-- The gradient of the gate half of a block. -/
theorem dgB_eq (x0 : Vec Ideal S3 .f32) (x1 : Vec Ideal S512x7168 .bf16) (x2 : Vec Ideal S512x4096 .bf16) (x3 : Vec Ideal S2048x7168 .fp8e4m3) :
    dgB x0 x1 x2 x3 = dg (dA x1 x3 (x0 (ix1 0)) (x0 (ix1 1))) (gate x2) (up x2) := by
  funext i; obtain ⟨r, l, rfl⟩ : ∃ (r : Fin 512) (l : Fin 2048), i = ix2 r l := ⟨i 0, i 1, eq_ix2 i⟩
  unfold dgB dg k0_pay16
  rw [← pay13_eq, ← gB_eq, ← uB_eq, s0_eq, s1_eq]
  generalize k0_pay13 (k0_pay5 x1) (x0 (ix1 0)) x3 (x0 (ix1 1)) = A
  generalize gB x2 = G
  generalize uB x2 = U
  pointwise [k0_pay14, k0_pay15]

/-- The gradient of the up half of a block. -/
theorem duB_eq (x0 : Vec Ideal S3 .f32) (x1 : Vec Ideal S512x7168 .bf16) (x2 : Vec Ideal S512x4096 .bf16) (x3 : Vec Ideal S2048x7168 .fp8e4m3) :
    duB x0 x1 x2 x3 = du (dA x1 x3 (x0 (ix1 0)) (x0 (ix1 1))) (gate x2) := by
  funext i; obtain ⟨r, l, rfl⟩ : ∃ (r : Fin 512) (l : Fin 2048), i = ix2 r l := ⟨i 0, i 1, eq_ix2 i⟩
  unfold duB du k0_pay17
  rw [← pay13_eq, ← gB_eq, s0_eq, s1_eq]
  generalize k0_pay13 (k0_pay5 x1) (x0 (ix1 0)) x3 (x0 (ix1 1)) = A
  generalize gB x2 = G
  pointwise [k0_pay14, k0_pay15]

theorem pay1_eq (A : FVec Ideal S512x2048 .f32) (z : Elt Ideal .f32) : k0_pay1 A z = codes A z := by
  funext i; obtain ⟨r, l, rfl⟩ : ∃ (r : Fin 512) (l : Fin 2048), i = ix2 r l := ⟨i 0, i 1, eq_ix2 i⟩
  unfold codes clip
  pointwise [k0_pay1]
theorem pay2_eq (A : FVec Ideal S512x2048 .f32) (z : Elt Ideal .f32) : k0_pay2 A z = codes A z := by
  funext i; obtain ⟨r, l, rfl⟩ : ∃ (r : Fin 512) (l : Fin 2048), i = ix2 r l := ⟨i 0, i 1, eq_ix2 i⟩
  unfold codes clip
  pointwise [k0_pay2]

/-- The dH codes of a block. -/
theorem hB_eq (x0 : Vec Ideal S3 .f32) (x1 : Vec Ideal S512x7168 .bf16) (x2 : Vec Ideal S512x4096 .bf16) (x3 : Vec Ideal S2048x7168 .fp8e4m3) :
    hB x0 x1 x2 x3 = codes (dH x1 x2 x3 (x0 (ix1 0)) (x0 (ix1 1))) (x0 (ix1 2)) := by
  funext i
  unfold hB dH both codes
  rw [dgB_eq, duB_eq, s2_eq, pay1_eq, pay2_eq]
  beta_reduce
  by_cases h : (i 1).val < 2048
  · rw [dif_pos h, dif_pos h]; rfl
  · rw [dif_neg h, dif_neg h]; rfl

/-- A block of `dgrad2`: the product of dH codes and W1, scaled. -/
theorem k1_eq (x1 : Vec Ideal S512x4096 .fp8e5m2) (x2 : Vec Ideal S7168x4096 .fp8e4m3) (z : Elt Ideal .f32) : k1_pay1 x1 x2 z = mulT x1 x2 z := by
  funext i; obtain ⟨r, l, rfl⟩ : ∃ (r : Fin 512) (l : Fin 7168), i = ix2 r l := ⟨i 0, i 1, eq_ix2 i⟩
  unfold mulT
  pointwise [k1_pay1]
/-- A block of `wgrad1`: the product of the two columns of tokens, scaled. -/
theorem k2_eq (x1 : Vec Ideal S15360x512 .fp8e4m3) (x2 : Vec Ideal S15360x512 .fp8e5m2) (z : Elt Ideal .f32) : k2_pay1 x1 x2 z = tMul x1 x2 z := by
  funext i; obtain ⟨r, l, rfl⟩ : ∃ (r : Fin 512) (l : Fin 512), i = ix2 r l := ⟨i 0, i 1, eq_ix2 i⟩
  unfold tMul
  pointwise [k2_pay1]
/-- A block of `wgrad2`, the same product. -/
theorem k3_eq (x1 : Vec Ideal S15360x512 .fp8e4m3) (x2 : Vec Ideal S15360x512 .fp8e5m2) (z : Elt Ideal .f32) : k3_pay1 x1 x2 z = tMul x1 x2 z := by
  funext i; obtain ⟨r, l, rfl⟩ : ∃ (r : Fin 512) (l : Fin 512), i = ix2 r l := ⟨i 0, i 1, eq_ix2 i⟩
  unfold tMul
  pointwise [k3_pay1]

end Cert.KernelIdeal.Value

end
-- ==== Proof.Arrays.lean ====
/- What the arrays of `dgrad2`, `wgrad1` and `wgrad2` end holding, over the extended reals: each is one product of the
   whole input arrays, scaled. -/
module

public import proofs.«01_k».proof.Proof.Payloads
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Math (codes clip mulT tMul rows cols tile)

variable (V : (c : Dev nD) → (b : Ref sig .tc) → Buf (Elt Ideal) ((c : Thread nD τ).loc b))

/-- The grid point of `dgrad2` as a block of rows. -/
abbrev p1 (t : Fin cfg1.N) : Fin 30 := t.cast N_1

theorem i1_0 : ∀ t : Fin grid1.N, win1_0.index t = ![0] := by decide +kernel
theorem i1_1 : ∀ t : Fin grid1.N, win1_1.index t = ![t.val, 0] := by decide +kernel
theorem i1_2 : ∀ t : Fin grid1.N, win1_2.index t = ![0, 0] := by decide +kernel
theorem i1_3 : ∀ t : Fin grid1.N, win1_3.index t = ![t.val, 0] := by decide +kernel

theorem b1_0 (c : Dev nD) (t : Fin cfg1.N) : iblk1 V c 0 t (ix1 0) = V c main_v9 (ix1 0) := by
  blk_simp [iblk1, i1_0]
  blk_ext! [i1_0]
theorem b1_1 (c : Dev nD) (t : Fin cfg1.N) : iblk1 V c 1 t = rows (V c main_v7_1) (p1 t) := by
  funext y
  unfold rows
  blk_simp [iblk1, i1_1]
  blk_ext! [i1_1]
  rfl
theorem b1_2 (c : Dev nD) (t : Fin cfg1.N) : iblk1 V c 2 t = V c main_arg6 := by
  funext y
  blk_simp [iblk1, i1_2]
  blk_ext! [i1_2]

/-- The gradient of x, all rows. -/
theorem final1 (c : Dev nD) : (dat1 V c).arrAt 3 cfg1.N = mulT (V c main_v7_1) (V c main_arg6) (V c main_v9 (ix1 0)) := by
  refine (dat1 V c).arrAt_eq_of_covers 3 _ (by decide +kernel) fun t hf y => ?_
  rw [after1_3]
  unfold outsAt1
  rw [out1_A3, k1_eq, s_eq, b1_0, b1_1, b1_2, Cert.Math.mulT_rows]
  generalize mulT (V c main_v7_1) (V c main_arg6) (V c main_v9 (ix1 0)) = G
  unfold rows
  blk_simp [i1_3]
  blk_ext! [i1_3]
  rfl

/-! ## `wgrad1`: one tile of 512 x 512 per grid point (i, j) -/

theorem i2_0 : ∀ t : Fin grid2.N, win2_0.index t = ![0] := by decide +kernel
theorem i2_1 : ∀ t : Fin grid2.N, win2_1.index t = ![0, t.val / 8] := by decide +kernel
theorem i2_2 : ∀ t : Fin grid2.N, win2_2.index t = ![0, t.val % 8] := by decide +kernel
theorem i2_3 : ∀ t : Fin grid2.N, win2_3.index t = ![t.val / 8, t.val % 8] := by decide +kernel

theorem h2_1 (t : Fin cfg2.N) : t.val / 8 * 512 + 512 ≤ 7168 := by have : t.val < 112 := t.isLt; omega
theorem h2_2 (t : Fin cfg2.N) : t.val % 8 * 512 + 512 ≤ 4096 := by omega

theorem b2_0 (c : Dev nD) (t : Fin cfg2.N) : iblk2 V c 0 t (ix1 0) = V c main_v13 (ix1 0) := by
  blk_simp [iblk2, i2_0]
  blk_ext! [i2_0]
theorem b2_1 (c : Dev nD) (t : Fin cfg2.N) : iblk2 V c 1 t = cols (V c main_v12) (t.val / 8 * 512) (h2_1 t) := by
  funext y
  unfold cols
  blk_simp [iblk2, i2_1]
  blk_ext! [i2_1]
theorem b2_2 (c : Dev nD) (t : Fin cfg2.N) : iblk2 V c 2 t = cols (V c main_v7_1) (t.val % 8 * 512) (h2_2 t) := by
  funext y
  unfold cols
  blk_simp [iblk2, i2_2]
  blk_ext! [i2_2]

/-- The gradient of the weight, whole. -/
theorem final2 (c : Dev nD) : (dat2 V c).arrAt 3 cfg2.N = tMul (V c main_v12) (V c main_v7_1) (V c main_v13 (ix1 0)) := by
  refine (dat2 V c).arrAt_eq_of_covers 3 _ (by decide +kernel) fun t hf y => ?_
  rw [after2_3]
  unfold outsAt2
  rw [out2_A3, k2_eq, s_eq, b2_0, b2_1, b2_2, Cert.Math.tMul_cols]
  generalize tMul (V c main_v12) (V c main_v7_1) (V c main_v13 (ix1 0)) = G
  unfold tile
  blk_simp [i2_3]
  blk_ext! [i2_3]

/-! ## `wgrad2`: the same, on a grid of 4 x 14 -/

theorem i3_0 : ∀ t : Fin grid3.N, win3_0.index t = ![0] := by decide +kernel
theorem i3_1 : ∀ t : Fin grid3.N, win3_1.index t = ![0, t.val / 14] := by decide +kernel
theorem i3_2 : ∀ t : Fin grid3.N, win3_2.index t = ![0, t.val % 14] := by decide +kernel
theorem i3_3 : ∀ t : Fin grid3.N, win3_3.index t = ![t.val / 14, t.val % 14] := by decide +kernel

theorem h3_1 (t : Fin cfg3.N) : t.val / 14 * 512 + 512 ≤ 2048 := by have : t.val < 56 := t.isLt; omega
theorem h3_2 (t : Fin cfg3.N) : t.val % 14 * 512 + 512 ≤ 7168 := by omega

theorem b3_0 (c : Dev nD) (t : Fin cfg3.N) : iblk3 V c 0 t (ix1 0) = V c main_v17 (ix1 0) := by
  blk_simp [iblk3, i3_0]
  blk_ext! [i3_0]
theorem b3_1 (c : Dev nD) (t : Fin cfg3.N) : iblk3 V c 1 t = cols (V c main_v16) (t.val / 14 * 512) (h3_1 t) := by
  funext y
  unfold cols
  blk_simp [iblk3, i3_1]
  blk_ext! [i3_1]
theorem b3_2 (c : Dev nD) (t : Fin cfg3.N) : iblk3 V c 2 t = cols (V c main_v7_0) (t.val % 14 * 512) (h3_2 t) := by
  funext y
  unfold cols
  blk_simp [iblk3, i3_2]
  blk_ext! [i3_2]

/-- The gradient of the weight, whole. -/
theorem final3 (c : Dev nD) : (dat3 V c).arrAt 3 cfg3.N = tMul (V c main_v16) (V c main_v7_0) (V c main_v17 (ix1 0)) := by
  refine (dat3 V c).arrAt_eq_of_covers 3 _ (by decide +kernel) fun t hf y => ?_
  rw [after3_3]
  unfold outsAt3
  rw [out3_A3, k3_eq, s_eq, b3_0, b3_1, b3_2, Cert.Math.tMul_cols]
  generalize tMul (V c main_v16) (V c main_v7_0) (V c main_v17 (ix1 0)) = G
  unfold tile
  blk_simp [i3_3]
  blk_ext! [i3_3]

end Cert.KernelIdeal.Value
-- ==== Proof.Maxima.lean ====
/- The two 8 x 128 maxima of one block, over the extended reals: all of a block's maxima are bounded exactly when the
   absolute values of the block are. -/
module

public import proofs.«01_k».proof.Proof.Payloads

@[expose] public section

set_option maxRecDepth 16384

noncomputable section

namespace Cert.KernelIdeal.Value

open Cert.KernelIdeal Cert.KernelIdeal.Gen Idealize.ShloMosaic Idealize.ShloMosaic.TcCoe Idealize.SL.Sem
open Cert.Math (codes clip mulT tMul dg du dA dH both gate up ninf)

/-! ## The two maxima of a block -/

/-- Column `128·k + l` is the `k`-th chunk's lane `l`: all columns are bounded when every chunk's lanes are. -/
theorem forall_lanes (n : Nat) (P : Fin (128 * n) → Prop) :
    (∀ (l : Fin 128) (k : Nat) (hk : k < n), P ⟨128 * k + l.val, by have := l.isLt; have := Nat.mul_le_mul_left 128 (Nat.succ_le_of_lt hk); omega⟩) ↔ ∀ c, P c := by
  constructor
  · intro h c
    have hc := c.isLt
    have := h ⟨c.val % 128, Nat.mod_lt _ (by norm_num)⟩ (c.val / 128) (by omega)
    have e : (⟨128 * (c.val / 128) + c.val % 128, by omega⟩ : Fin (128 * n)) = c := Fin.ext (Nat.div_add_mod _ _)
    rwa [e] at this
  · intro h l k hk; exact h _

/-- Row `8·a + r` is the `a`-th group's sublane `r`: all rows are bounded when every group's are. -/
theorem forall_sublanes (P : Fin 512 → Prop) :
    (∀ (r : Fin 8) (a : Fin 64), P ⟨a.val * 8 + r.val, by omega⟩) ↔ ∀ c, P c := by
  constructor
  · intro h c
    have := h ⟨c.val % 8, Nat.mod_lt _ (by norm_num)⟩ ⟨c.val / 8, by omega⟩
    have e : (⟨c.val / 8 * 8 + c.val % 8, by omega⟩ : Fin 512) = c := Fin.ext (Nat.div_add_mod' _ _)
    rwa [e] at this
  · intro h r a; exact h _

/-- The maximum of |dy| over the rows, one of 8 sublanes. -/
theorem pay6_le (x1 : Vec Ideal S512x7168 .bf16) (r : Fin 8) (l : Fin 7168) (y : EReal) :
    k0_pay6 x1 (ix2 r l) ≤ y ↔ ninf ≤ y ∧ ∀ a : Fin 64, Cert.Math.abs (x1 (ix2 ⟨a.val * 8 + r.val, by omega⟩ l)) ≤ y := by
  have e : k0_pay6 x1 (ix2 r l) = Finset.fold max ninf (fun a : Fin 64 => Cert.Math.abs (x1 (ix2 ⟨a.val * 8 + r.val, by omega⟩ l))) Finset.univ := by
    unfold ninf Cert.Math.abs
    pointwise [k0_pay6, k0_pay5]
    rfl
  rw [e, Finset.fold_max_le]
  simp

/-- A slice of 128 lanes at a column offset reads the column at that offset. -/
theorem slice_at (n o : Nat) (v : FVec Ideal ⟨2, ![8, n]⟩ .f32) (h : Shape.Slices ⟨2, ![8, n]⟩ ![0, o] S8x128) (r : Fin 8) (l : Fin 128) (ho : o + l.val < n) :
    extractStridedSlice S8x128 ![0, o] v h (ix2 r l) = v (ix2 r ⟨o + l.val, ho⟩) :=
  extractStridedSlice_apply _ _ _ _ _ fun a => match a with
    | ⟨0, _⟩ => (Nat.zero_add _).symm
    | ⟨1, _⟩ => rfl

/-- The maximum of two vectors is bounded when both are. -/
theorem maximumf_le (a b : FVec Ideal S8x128 .f32) (i : S8x128.Idx) (y : EReal) :
    maximumf a b i ≤ y ↔ a i ≤ y ∧ b i ≤ y := max_le_iff

/-- The chain of 56 chunks of 128 columns is bounded when every chunk is. -/
theorem ymB_le (x1 : Vec Ideal S512x7168 .bf16) (r : Fin 8) (l : Fin 128) (y : EReal) :
    ymB x1 (ix2 r l) ≤ y ↔ ∀ (k : Nat) (hk : k < 56), k0_pay6 x1 (ix2 r ⟨128 * k + l.val, by have := l.isLt; omega⟩) ≤ y := by
  unfold ymB k0_pay11 k0_pay10 k0_pay9 k0_pay8 k0_pay7
  have hl := l.isLt
  generalize k0_pay6 x1 = v
  simp only [maximumf_le]
  rw [slice_at 7168 0 v _ r l (by omega)]
  rw [slice_at 7168 128 v _ r l (by omega)]
  rw [slice_at 7168 256 v _ r l (by omega)]
  rw [slice_at 7168 384 v _ r l (by omega)]
  rw [slice_at 7168 512 v _ r l (by omega)]
  rw [slice_at 7168 640 v _ r l (by omega)]
  rw [slice_at 7168 768 v _ r l (by omega)]
  rw [slice_at 7168 896 v _ r l (by omega)]
  rw [slice_at 7168 1024 v _ r l (by omega)]
  rw [slice_at 7168 1152 v _ r l (by omega)]
  rw [slice_at 7168 1280 v _ r l (by omega)]
  rw [slice_at 7168 1408 v _ r l (by omega)]
  rw [slice_at 7168 1536 v _ r l (by omega)]
  rw [slice_at 7168 1664 v _ r l (by omega)]
  rw [slice_at 7168 1792 v _ r l (by omega)]
  rw [slice_at 7168 1920 v _ r l (by omega)]
  rw [slice_at 7168 2048 v _ r l (by omega)]
  rw [slice_at 7168 2176 v _ r l (by omega)]
  rw [slice_at 7168 2304 v _ r l (by omega)]
  rw [slice_at 7168 2432 v _ r l (by omega)]
  rw [slice_at 7168 2560 v _ r l (by omega)]
  rw [slice_at 7168 2688 v _ r l (by omega)]
  rw [slice_at 7168 2816 v _ r l (by omega)]
  rw [slice_at 7168 2944 v _ r l (by omega)]
  rw [slice_at 7168 3072 v _ r l (by omega)]
  rw [slice_at 7168 3200 v _ r l (by omega)]
  rw [slice_at 7168 3328 v _ r l (by omega)]
  rw [slice_at 7168 3456 v _ r l (by omega)]
  rw [slice_at 7168 3584 v _ r l (by omega)]
  rw [slice_at 7168 3712 v _ r l (by omega)]
  rw [slice_at 7168 3840 v _ r l (by omega)]
  rw [slice_at 7168 3968 v _ r l (by omega)]
  rw [slice_at 7168 4096 v _ r l (by omega)]
  rw [slice_at 7168 4224 v _ r l (by omega)]
  rw [slice_at 7168 4352 v _ r l (by omega)]
  rw [slice_at 7168 4480 v _ r l (by omega)]
  rw [slice_at 7168 4608 v _ r l (by omega)]
  rw [slice_at 7168 4736 v _ r l (by omega)]
  rw [slice_at 7168 4864 v _ r l (by omega)]
  rw [slice_at 7168 4992 v _ r l (by omega)]
  rw [slice_at 7168 5120 v _ r l (by omega)]
  rw [slice_at 7168 5248 v _ r l (by omega)]
  rw [slice_at 7168 5376 v _ r l (by omega)]
  rw [slice_at 7168 5504 v _ r l (by omega)]
  rw [slice_at 7168 5632 v _ r l (by omega)]
  rw [slice_at 7168 5760 v _ r l (by omega)]
  rw [slice_at 7168 5888 v _ r l (by omega)]
  rw [slice_at 7168 6016 v _ r l (by omega)]
  rw [slice_at 7168 6144 v _ r l (by omega)]
  rw [slice_at 7168 6272 v _ r l (by omega)]
  rw [slice_at 7168 6400 v _ r l (by omega)]
  rw [slice_at 7168 6528 v _ r l (by omega)]
  rw [slice_at 7168 6656 v _ r l (by omega)]
  rw [slice_at 7168 6784 v _ r l (by omega)]
  rw [slice_at 7168 6912 v _ r l (by omega)]
  rw [slice_at 7168 7040 v _ r l (by omega)]
  constructor
  · intro h k hk
    interval_cases k
    exacts [h.1.1.1.1.1.1.1.1.1.1.1.1.1.1.1.1.1.1.1.1.1.1.1.1.1.1.1.1.1.1.1.1.1.1.1.1.1.1.1.1.1.1.1.1.1.1.1.1.1.1.1.1.1.1.1, h.1.1.1.1.1.1.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.1.2, h.1.1.1.1.1.1.1.1.1.1.1.1.1.1.1.1.1.1.1.1.1.1.1.1.1.1.1.1.1.1.2, h.1.1.1.1.1.1.1.1.1.1.1.1.1.1.1.1.1.1.1.1.1.1.1.1.1.1.1.1.1.2, h.1.1.1.1.1.1.1.1.1.1.1.1.1.1.1.1.1.1.1.1.1.1.1.1.1.1.1.1.2, h.1.1.1.1.1.1.1.1.1.1.1.1.1.1.1.1.1.1.1.1.1.1.1.1.1.1.1.2, h.1.1.1.1.1.1.1.1.1.1.1.1.1.1.1.1.1.1.1.1.1.1.1.1.1.1.2, h.1.1.1.1.1.1.1.1.1.1.1.1.1.1.1.1.1.1.1.1.1.1.1.1.1.2, h.1.1.1.1.1.1.1.1.1.1.1.1.1.1.1.1.1.1.1.1.1.1.1.1.2, h.1.1.1.1.1.1.1.1.1.1.1.1.1.1.1.1.1.1.1.1.1.1.1.2, h.1.1.1.1.1.1.1.1.1.1.1.1.1.1.1.1.1.1.1.1.1.1.2, h.1.1.1.1.1.1.1.1.1.1.1.1.1.1.1.1.1.1.1.1.1.2, h.1.1.1.1.1.1.1.1.1.1.1.1.1.1.1.1.1.1.1.1.2, h.1.1.1.1.1.1.1.1.1.1.1.1.1.1.1.1.1.1.1.2, h.1.1.1.1.1.1.1.1.1.1.1.1.1.1.1.1.1.1.2, h.1.1.1.1.1.1.1.1.1.1.1.1.1.1.1.1.1.2, h.1.1.1.1.1.1.1.1.1.1.1.1.1.1.1.1.2, h.1.1.1.1.1.1.1.1.1.1.1.1.1.1.1.2, h.1.1.1.1.1.1.1.1.1.1.1.1.1.1.2, h.1.1.1.1.1.1.1.1.1.1.1.1.1.2, h.1.1.1.1.1.1.1.1.1.1.1.1.2, h.1.1.1.1.1.1.1.1.1.1.1.2, h.1.1.1.1.1.1.1.1.1.1.2, h.1.1.1.1.1.1.1.1.1.2, h.1.1.1.1.1.1.1.1.2, h.1.1.1.1.1.1.1.2, h.1.1.1.1.1.1.2, h.1.1.1.1.1.2, h.1.1.1.1.2, h.1.1.1.2, h.1.1.2, h.1.2, h.2]
  · intro h
    exact ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨h 0 (by norm_num), h 1 (by norm_num)⟩, h 2 (by norm_num)⟩, h 3 (by norm_num)⟩, h 4 (by norm_num)⟩, h 5 (by norm_num)⟩, h 6 (by norm_num)⟩, h 7 (by norm_num)⟩, h 8 (by norm_num)⟩, h 9 (by norm_num)⟩, h 10 (by norm_num)⟩, h 11 (by norm_num)⟩, h 12 (by norm_num)⟩, h 13 (by norm_num)⟩, h 14 (by norm_num)⟩, h 15 (by norm_num)⟩, h 16 (by norm_num)⟩, h 17 (by norm_num)⟩, h 18 (by norm_num)⟩, h 19 (by norm_num)⟩, h 20 (by norm_num)⟩, h 21 (by norm_num)⟩, h 22 (by norm_num)⟩, h 23 (by norm_num)⟩, h 24 (by norm_num)⟩, h 25 (by norm_num)⟩, h 26 (by norm_num)⟩, h 27 (by norm_num)⟩, h 28 (by norm_num)⟩, h 29 (by norm_num)⟩, h 30 (by norm_num)⟩, h 31 (by norm_num)⟩, h 32 (by norm_num)⟩, h 33 (by norm_num)⟩, h 34 (by norm_num)⟩, h 35 (by norm_num)⟩, h 36 (by norm_num)⟩, h 37 (by norm_num)⟩, h 38 (by norm_num)⟩, h 39 (by norm_num)⟩, h 40 (by norm_num)⟩, h 41 (by norm_num)⟩, h 42 (by norm_num)⟩, h 43 (by norm_num)⟩, h 44 (by norm_num)⟩, h 45 (by norm_num)⟩, h 46 (by norm_num)⟩, h 47 (by norm_num)⟩, h 48 (by norm_num)⟩, h 49 (by norm_num)⟩, h 50 (by norm_num)⟩, h 51 (by norm_num)⟩, h 52 (by norm_num)⟩, h 53 (by norm_num)⟩, h 54 (by norm_num)⟩, h 55 (by norm_num)⟩

/-- All of a block's maxima of |dy| are bounded exactly when its absolute values are. -/
theorem ymB_max (x1 : Vec Ideal S512x7168 .bf16) (y : EReal) :
    (∀ j : S8x128.Idx, ymB x1 j ≤ y) ↔ ninf ≤ y ∧ ∀ i : S512x7168.Idx, Cert.Math.abs (x1 i) ≤ y := by
  constructor
  · intro h
    have h1 : ∀ (r : Fin 8) (c : Fin 7168), k0_pay6 x1 (ix2 r c) ≤ y := fun r =>
      (forall_lanes 56 fun c : Fin 7168 => k0_pay6 x1 (ix2 r c) ≤ y).mp fun l k hk => (ymB_le x1 r l y).mp (h _) k hk
    refine ⟨((pay6_le x1 0 0 y).mp (h1 0 0)).1, fun i => ?_⟩
    rw [eq_ix2 i]
    exact (forall_sublanes fun a => Cert.Math.abs (x1 (ix2 a (i 1))) ≤ y).mp (fun r a => ((pay6_le x1 r (i 1) y).mp (h1 r (i 1))).2 a) (i 0)
  · intro h j
    rw [eq_ix2 j]
    exact (ymB_le x1 _ _ y).mpr fun k hk => (pay6_le x1 _ _ y).mpr ⟨h.1, fun a => h.2 _⟩

/-- The maximum of |v| over the rows, one of 8 sublanes. -/
def rowMax (v : FVec Ideal S512x2048 .f32) : FVec Ideal S8x2048 .f32 :=
  multiReduction .maximumf [0] S8x2048 (shapeCast S64x8x2048 (absf v) shapeCasts_S512x2048_S64x8x2048) 0xFF800000#32 reduces_S64x8x2048_S8x2048 (.inl rfl) rfl

theorem rowMax_le (v : FVec Ideal S512x2048 .f32) (r : Fin 8) (l : Fin 2048) (y : EReal) :
    rowMax v (ix2 r l) ≤ y ↔ ninf ≤ y ∧ ∀ a : Fin 64, Cert.Math.abs (v (ix2 ⟨a.val * 8 + r.val, by omega⟩ l)) ≤ y := by
  have e : rowMax v (ix2 r l) = Finset.fold max ninf (fun a : Fin 64 => Cert.Math.abs (v (ix2 ⟨a.val * 8 + r.val, by omega⟩ l))) Finset.univ := by
    unfold ninf Cert.Math.abs
    pointwise [rowMax]
    rfl
  rw [e, Finset.fold_max_le]
  simp

/-- The two chains of 16 chunks are bounded when every chunk of both is. -/
theorem hmB_le (x0 : Vec Ideal S3 .f32) (x1 : Vec Ideal S512x7168 .bf16) (x2 : Vec Ideal S512x4096 .bf16) (x3 : Vec Ideal S2048x7168 .fp8e4m3) (r : Fin 8) (l : Fin 128) (y : EReal) :
    hmB x0 x1 x2 x3 (ix2 r l) ≤ y ↔ (∀ (k : Nat) (hk : k < 16), rowMax (dgB x0 x1 x2 x3) (ix2 r ⟨128 * k + l.val, by have := l.isLt; omega⟩) ≤ y)
      ∧ ∀ (k : Nat) (hk : k < 16), rowMax (duB x0 x1 x2 x3) (ix2 r ⟨128 * k + l.val, by have := l.isLt; omega⟩) ≤ y := by
  have e : k0_pay18 (k0_pay5 x1) (s0 x0) x3 (s1 x0) (gB x2) (uB x2) = rowMax (dgB x0 x1 x2 x3) := rfl
  unfold hmB k0_pay21 k0_pay20 k0_pay19
  rw [e]
  have e' : multiReduction .maximumf [0] S8x2048 (shapeCast S64x8x2048 (absf (duB x0 x1 x2 x3)) shapeCasts_S512x2048_S64x8x2048) 0xFF800000#32 reduces_S64x8x2048_S8x2048 (.inl rfl) rfl
      = rowMax (duB x0 x1 x2 x3) := rfl
  have hl := l.isLt
  simp only [maximumf_le, e']
  generalize rowMax (dgB x0 x1 x2 x3) = v
  generalize rowMax (duB x0 x1 x2 x3) = w
  rw [slice_at 2048 0 v _ r l (by omega), slice_at 2048 0 w _ r l (by omega)]
  rw [slice_at 2048 128 v _ r l (by omega), slice_at 2048 128 w _ r l (by omega)]
  rw [slice_at 2048 256 v _ r l (by omega), slice_at 2048 256 w _ r l (by omega)]
  rw [slice_at 2048 384 v _ r l (by omega), slice_at 2048 384 w _ r l (by omega)]
  rw [slice_at 2048 512 v _ r l (by omega), slice_at 2048 512 w _ r l (by omega)]
  rw [slice_at 2048 640 v _ r l (by omega), slice_at 2048 640 w _ r l (by omega)]
  rw [slice_at 2048 768 v _ r l (by omega), slice_at 2048 768 w _ r l (by omega)]
  rw [slice_at 2048 896 v _ r l (by omega), slice_at 2048 896 w _ r l (by omega)]
  rw [slice_at 2048 1024 v _ r l (by omega), slice_at 2048 1024 w _ r l (by omega)]
  rw [slice_at 2048 1152 v _ r l (by omega), slice_at 2048 1152 w _ r l (by omega)]
  rw [slice_at 2048 1280 v _ r l (by omega), slice_at 2048 1280 w _ r l (by omega)]
  rw [slice_at 2048 1408 v _ r l (by omega), slice_at 2048 1408 w _ r l (by omega)]
  rw [slice_at 2048 1536 v _ r l (by omega), slice_at 2048 1536 w _ r l (by omega)]
  rw [slice_at 2048 1664 v _ r l (by omega), slice_at 2048 1664 w _ r l (by omega)]
  rw [slice_at 2048 1792 v _ r l (by omega), slice_at 2048 1792 w _ r l (by omega)]
  rw [slice_at 2048 1920 v _ r l (by omega), slice_at 2048 1920 w _ r l (by omega)]
  refine and_congr ⟨?_, ?_⟩ ⟨?_, ?_⟩
  · intro h k hk
    interval_cases k
    exacts [h.1.1.1.1.1.1.1.1.1.1.1.1.1.1.1, h.1.1.1.1.1.1.1.1.1.1.1.1.1.1.2, h.1.1.1.1.1.1.1.1.1.1.1.1.1.2, h.1.1.1.1.1.1.1.1.1.1.1.1.2, h.1.1.1.1.1.1.1.1.1.1.1.2, h.1.1.1.1.1.1.1.1.1.1.2, h.1.1.1.1.1.1.1.1.1.2, h.1.1.1.1.1.1.1.1.2, h.1.1.1.1.1.1.1.2, h.1.1.1.1.1.1.2, h.1.1.1.1.1.2, h.1.1.1.1.2, h.1.1.1.2, h.1.1.2, h.1.2, h.2]
  · intro h
    exact ⟨⟨⟨⟨⟨⟨⟨⟨⟨⟨⟨⟨⟨⟨⟨h 0 (by norm_num), h 1 (by norm_num)⟩, h 2 (by norm_num)⟩, h 3 (by norm_num)⟩, h 4 (by norm_num)⟩, h 5 (by norm_num)⟩, h 6 (by norm_num)⟩, h 7 (by norm_num)⟩, h 8 (by norm_num)⟩, h 9 (by norm_num)⟩, h 10 (by norm_num)⟩, h 11 (by norm_num)⟩, h 12 (by norm_num)⟩, h 13 (by norm_num)⟩, h 14 (by norm_num)⟩, h 15 (by norm_num)⟩
  · intro h k hk
    interval_cases k
    exacts [h.1.1.1.1.1.1.1.1.1.1.1.1.1.1.1, h.1.1.1.1.1.1.1.1.1.1.1.1.1.1.2, h.1.1.1.1.1.1.1.1.1.1.1.1.1.2, h.1.1.1.1.1.1.1.1.1.1.1.1.2, h.1.1.1.1.1.1.1.1.1.1.1.2, h.1.1.1.1.1.1.1.1.1.1.2, h.1.1.1.1.1.1.1.1.1.2, h.1.1.1.1.1.1.1.1.2, h.1.1.1.1.1.1.1.2, h.1.1.1.1.1.1.2, h.1.1.1.1.1.2, h.1.1.1.1.2, h.1.1.1.2, h.1.1.2, h.1.2, h.2]
  · intro h
    exact ⟨⟨⟨⟨⟨⟨⟨⟨⟨⟨⟨⟨⟨⟨⟨h 0 (by norm_num), h 1 (by norm_num)⟩, h 2 (by norm_num)⟩, h 3 (by norm_num)⟩, h 4 (by norm_num)⟩, h 5 (by norm_num)⟩, h 6 (by norm_num)⟩, h 7 (by norm_num)⟩, h 8 (by norm_num)⟩, h 9 (by norm_num)⟩, h 10 (by norm_num)⟩, h 11 (by norm_num)⟩, h 12 (by norm_num)⟩, h 13 (by norm_num)⟩, h 14 (by norm_num)⟩, h 15 (by norm_num)⟩

/-- All of a block's maxima of |dH| are bounded exactly when the absolute values of both halves are. -/
theorem hmB_max' (x0 : Vec Ideal S3 .f32) (x1 : Vec Ideal S512x7168 .bf16) (x2 : Vec Ideal S512x4096 .bf16) (x3 : Vec Ideal S2048x7168 .fp8e4m3) (y : EReal) :
    (∀ j : S8x128.Idx, hmB x0 x1 x2 x3 j ≤ y) ↔ ninf ≤ y ∧ (∀ i, Cert.Math.abs (dgB x0 x1 x2 x3 i) ≤ y) ∧ ∀ i, Cert.Math.abs (duB x0 x1 x2 x3 i) ≤ y := by
  constructor
  · intro h
    have h1 : ∀ (r : Fin 8) (c : Fin 2048), rowMax (dgB x0 x1 x2 x3) (ix2 r c) ≤ y := fun r =>
      (forall_lanes 16 fun c : Fin 2048 => rowMax (dgB x0 x1 x2 x3) (ix2 r c) ≤ y).mp fun l k hk => ((hmB_le x0 x1 x2 x3 r l y).mp (h _)).1 k hk
    have h2 : ∀ (r : Fin 8) (c : Fin 2048), rowMax (duB x0 x1 x2 x3) (ix2 r c) ≤ y := fun r =>
      (forall_lanes 16 fun c : Fin 2048 => rowMax (duB x0 x1 x2 x3) (ix2 r c) ≤ y).mp fun l k hk => ((hmB_le x0 x1 x2 x3 r l y).mp (h _)).2 k hk
    refine ⟨((rowMax_le _ 0 0 y).mp (h1 0 0)).1, fun i => ?_, fun i => ?_⟩
    · rw [eq_ix2 i]
      exact (forall_sublanes fun a => Cert.Math.abs (dgB x0 x1 x2 x3 (ix2 a (i 1))) ≤ y).mp (fun r a => ((rowMax_le _ r (i 1) y).mp (h1 r (i 1))).2 a) (i 0)
    · rw [eq_ix2 i]
      exact (forall_sublanes fun a => Cert.Math.abs (duB x0 x1 x2 x3 (ix2 a (i 1))) ≤ y).mp (fun r a => ((rowMax_le _ r (i 1) y).mp (h2 r (i 1))).2 a) (i 0)
  · intro h j
    rw [eq_ix2 j]
    exact (hmB_le x0 x1 x2 x3 _ _ y).mpr ⟨fun k hk => (rowMax_le _ _ _ y).mpr ⟨h.1, fun a => h.2.1 _⟩, fun k hk => (rowMax_le _ _ _ y).mpr ⟨h.1, fun a => h.2.2 _⟩⟩

/-- Two halves side by side are bounded when each half is. -/
theorem both_le {n : Nat} (x z : Cert.Math.Mat n 2048) (y : EReal) :
    (∀ i, Cert.Math.abs (both x z i) ≤ y) ↔ (∀ i, Cert.Math.abs (x i) ≤ y) ∧ ∀ i, Cert.Math.abs (z i) ≤ y := by
  constructor
  · intro h
    constructor
    · intro i
      have hi : (i 1).val < 2048 := (i 1).isLt
      have e : both x z (ix2 (i 0) ⟨(i 1).val, by omega⟩) = x i := by
        refine (dif_pos hi).trans (congrArg x ?_); exact (eq_ix2 i).symm
      rw [← e]; exact h _
    · intro i
      have hi : (i 1).val < 2048 := (i 1).isLt
      have e : both x z (ix2 (i 0) ⟨2048 + (i 1).val, by omega⟩) = z i := by
        refine (dif_neg (show ¬ 2048 + (i 1).val < 2048 by omega)).trans (congrArg z ?_)
        refine Eq.trans ?_ (eq_ix2 i).symm
        congr 1; exact Fin.ext (Nat.add_sub_cancel_left _ _)
      rw [← e]; exact h _
  · intro h i
    unfold both
    by_cases hi : (i 1).val < 2048
    · rw [dif_pos hi]; exact h.1 _
    · rw [dif_neg hi]; exact h.2 _

/-- All of a block's maxima of |dH| are bounded exactly when its absolute values are. -/
theorem hmB_max (x0 : Vec Ideal S3 .f32) (x1 : Vec Ideal S512x7168 .bf16) (x2 : Vec Ideal S512x4096 .bf16) (x3 : Vec Ideal S2048x7168 .fp8e4m3) (y : EReal) :
    (∀ j : S8x128.Idx, hmB x0 x1 x2 x3 j ≤ y) ↔ ninf ≤ y ∧ ∀ i : S512x4096.Idx, Cert.Math.abs (dH x1 x2 x3 (x0 (ix1 0)) (x0 (ix1 1)) i) ≤ y := by
  rw [hmB_max', dgB_eq, duB_eq]
  exact and_congr Iff.rfl (both_le _ _ y).symm

end Cert.KernelIdeal.Value
-- ==== Proof.Dgrad1Outs.lean ====
/- What each grid point of `dgrad1` leaves in its four outputs, over the extended reals: two blocks of codes, and the
   running maxima of the blocks so far. -/
module

public import proofs.«01_k».proof.Proof.Maxima
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Math (codes clip dH rows ninf)

variable (V : (c : Dev nD) → (b : Ref sig .tc) → Buf (Elt Ideal) ((c : Thread nD τ).loc b))

/-- What a point leaves in the four outputs: the two blocks of codes, and the block's maxima joined to those before. -/
theorem outs_fst (c : Dev nD) (t : Fin cfg0.N) : (outsAt0 V c t.val t.isLt).1 = yB (iblk0 V c 0 t) (iblk0 V c 1 t) := by
  have hN : t.val < 30 := t.isLt
  by_cases h : 1 ≤ t.val
  · rw [outsAt0_B V c t (by omega) h]; dsimp only; exact out0_B4 ..
  · rw [outsAt0_A V c t (by omega) h]; dsimp only; exact out0_A4 ..
theorem outs_snd (c : Dev nD) (t : Fin cfg0.N) : (outsAt0 V c t.val t.isLt).2.1 = hB (iblk0 V c 0 t) (iblk0 V c 1 t) (iblk0 V c 2 t) (iblk0 V c 3 t) := by
  have hN : t.val < 30 := t.isLt
  by_cases h : 1 ≤ t.val
  · rw [outsAt0_B V c t (by omega) h]; dsimp only; exact out0_B5 ..
  · rw [outsAt0_A V c t (by omega) h]; dsimp only; exact out0_A5 ..

theorem pay3_le (a b : FVec Ideal S8x128 .f32) (i : S8x128.Idx) (y : EReal) : k0_pay3 a b i ≤ y ↔ a i ≤ y ∧ b i ≤ y := by
  obtain ⟨r, l, rfl⟩ : ∃ (r : Fin 8) (l : Fin 128), i = ix2 r l := ⟨i 0, i 1, eq_ix2 i⟩
  pointwise [k0_pay3]
  rw [max_le_iff, and_comm]
theorem pay4_le (a b : FVec Ideal S8x128 .f32) (i : S8x128.Idx) (y : EReal) : k0_pay4 a b i ≤ y ↔ a i ≤ y ∧ b i ≤ y := by
  obtain ⟨r, l, rfl⟩ : ∃ (r : Fin 8) (l : Fin 128), i = ix2 r l := ⟨i 0, i 1, eq_ix2 i⟩
  pointwise [k0_pay4]
  rw [max_le_iff, and_comm]

theorem outs_y (c : Dev nD) (j : S8x128.Idx) (y : EReal) : ∀ (n : Nat) (h : n < cfg0.N),
    (outsAt0 V c n h).2.2.1 j ≤ y ↔ ∀ (k : Nat) (hk : k ≤ n), ymB (iblk0 V c 1 ⟨k, Nat.lt_of_le_of_lt hk h⟩) j ≤ y
  | 0, h => by
    have e : (outsAt0 V c 0 h).2.2.1 = ymB (iblk0 V c 1 ⟨0, h⟩) := by
      rw [outsAt0_A V c ⟨0, h⟩ rfl (by norm_num)]; dsimp only; exact out0_A6 ..
    rw [e]
    exact ⟨fun hh k hk => by obtain rfl : k = 0 := Nat.le_zero.mp hk; exact hh, fun hh => hh 0 le_rfl⟩
  | n + 1, h => by
    have hN : n + 1 < 30 := h
    have e : (outsAt0 V c (n + 1) h).2.2.1 = k0_pay3 (ymB (iblk0 V c 1 ⟨n + 1, h⟩)) (outsAt0 V c n (Nat.lt_of_succ_lt h)).2.2.1 := by
      rw [outsAt0_B V c ⟨n + 1, h⟩ (by show ¬ (n + 1) % 30 = 0; omega) (Nat.le_add_left 1 n)]; dsimp only; exact out0_B6 ..
    rw [e, pay3_le, outs_y c j y n]
    constructor
    · intro hh k hk
      rcases Nat.lt_or_ge n k with h' | h'
      · obtain rfl : k = n + 1 := by omega
        exact hh.1
      · exact hh.2 k h'
    · exact fun hh => ⟨hh (n + 1) le_rfl, fun k hk => hh k (Nat.le_succ_of_le hk)⟩

theorem outs_h (c : Dev nD) (j : S8x128.Idx) (y : EReal) : ∀ (n : Nat) (h : n < cfg0.N),
    (outsAt0 V c n h).2.2.2 j ≤ y ↔ ∀ (k : Nat) (hk : k ≤ n), hmB (iblk0 V c 0 ⟨k, Nat.lt_of_le_of_lt hk h⟩) (iblk0 V c 1 ⟨k, Nat.lt_of_le_of_lt hk h⟩) (iblk0 V c 2 ⟨k, Nat.lt_of_le_of_lt hk h⟩) (iblk0 V c 3 ⟨k, Nat.lt_of_le_of_lt hk h⟩) j ≤ y
  | 0, h => by
    have e : (outsAt0 V c 0 h).2.2.2 = hmB (iblk0 V c 0 ⟨0, h⟩) (iblk0 V c 1 ⟨0, h⟩) (iblk0 V c 2 ⟨0, h⟩) (iblk0 V c 3 ⟨0, h⟩) := by
      rw [outsAt0_A V c ⟨0, h⟩ rfl (by norm_num)]; dsimp only; exact out0_A7 ..
    rw [e]
    exact ⟨fun hh k hk => by obtain rfl : k = 0 := Nat.le_zero.mp hk; exact hh, fun hh => hh 0 le_rfl⟩
  | n + 1, h => by
    have hN : n + 1 < 30 := h
    have e : (outsAt0 V c (n + 1) h).2.2.2 = k0_pay4 (hmB (iblk0 V c 0 ⟨n + 1, h⟩) (iblk0 V c 1 ⟨n + 1, h⟩) (iblk0 V c 2 ⟨n + 1, h⟩) (iblk0 V c 3 ⟨n + 1, h⟩)) (outsAt0 V c n (Nat.lt_of_succ_lt h)).2.2.2 := by
      rw [outsAt0_B V c ⟨n + 1, h⟩ (by show ¬ (n + 1) % 30 = 0; omega) (Nat.le_add_left 1 n)]; dsimp only; exact out0_B7 ..
    rw [e, pay4_le, outs_h c j y n]
    constructor
    · intro hh k hk
      rcases Nat.lt_or_ge n k with h' | h'
      · obtain rfl : k = n + 1 := by omega
        exact hh.1
      · exact hh.2 k h'
    · exact fun hh => ⟨hh (n + 1) le_rfl, fun k hk => hh k (Nat.le_succ_of_le hk)⟩

end Cert.KernelIdeal.Value
-- ==== Proof.Dgrad1Arrays.lean ====
/- What the arrays of `dgrad1` end holding, over the extended reals: the dy codes and the dH codes of all rows, and two
   8 x 128 maxima whose largest element is the largest absolute value of dy and of dH. -/
module

public import proofs.«01_k».proof.Proof.Dgrad1Outs
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Math (codes clip dH rows ninf)

variable (V : (c : Dev nD) → (b : Ref sig .tc) → Buf (Elt Ideal) ((c : Thread nD τ).loc b))

/-- The grid point of `dgrad1` as a block of rows. -/
abbrev p0 (t : Fin cfg0.N) : Fin 30 := t.cast N_0

theorem i0_0 : ∀ t : Fin grid0.N, win0_0.index t = ![0] := by decide +kernel
theorem i0_1 : ∀ t : Fin grid0.N, win0_1.index t = ![t.val, 0] := by decide +kernel
theorem i0_2 : ∀ t : Fin grid0.N, win0_2.index t = ![t.val, 0] := by decide +kernel
theorem i0_3 : ∀ t : Fin grid0.N, win0_3.index t = ![0, 0] := by decide +kernel
theorem i0_4 : ∀ t : Fin grid0.N, win0_4.index t = ![t.val, 0] := by decide +kernel
theorem i0_5 : ∀ t : Fin grid0.N, win0_5.index t = ![t.val, 0] := by decide +kernel
theorem i0_6 : ∀ t : Fin grid0.N, win0_6.index t = ![0, 0] := by decide +kernel
theorem i0_7 : ∀ t : Fin grid0.N, win0_7.index t = ![0, 0] := by decide +kernel

theorem b0_0 (c : Dev nD) (t : Fin cfg0.N) (j : Fin 3) : iblk0 V c 0 t (ix1 j) = V c main_v4 (ix1 j) := by
  blk_simp [iblk0, i0_0]
  blk_ext! [i0_0]
theorem b0_1 (c : Dev nD) (t : Fin cfg0.N) : iblk0 V c 1 t = rows (V c main_v5) (p0 t) := by
  funext y
  unfold rows
  blk_simp [iblk0, i0_1]
  blk_ext! [i0_1]
  rfl
theorem b0_2 (c : Dev nD) (t : Fin cfg0.N) : iblk0 V c 2 t = rows (V c main_v6) (p0 t) := by
  funext y
  unfold rows
  blk_simp [iblk0, i0_2]
  blk_ext! [i0_2]
  rfl
theorem b0_3 (c : Dev nD) (t : Fin cfg0.N) : iblk0 V c 3 t = V c main_arg8 := by
  funext y
  blk_simp [iblk0, i0_3]
  blk_ext! [i0_3]

/-- The dy codes, all rows. -/
theorem final0_4 (c : Dev nD) : (dat0 V c).arrAt 4 cfg0.N = codes (V c main_v5) (V c main_v4 (ix1 0)) := by
  refine (dat0 V c).arrAt_eq_of_covers 4 _ (by decide +kernel) fun t hf y => ?_
  rw [after0_4, outs_fst, yB_eq, b0_0, b0_1, Cert.Math.codes_rows]
  generalize codes (V c main_v5) (V c main_v4 (ix1 0)) = G
  unfold rows
  blk_simp [i0_4]
  blk_ext! [i0_4]
  rfl

/-- dH of all rows, from the arrays the region finds. -/
abbrev dHall (c : Dev nD) : Cert.Math.Mat 15360 4096 :=
  dH (V c main_v5) (V c main_v6) (V c main_arg8) (V c main_v4 (ix1 0)) (V c main_v4 (ix1 1))

/-- The dH codes, all rows. -/
theorem final0_5 (c : Dev nD) : (dat0 V c).arrAt 5 cfg0.N = codes (dHall V c) (V c main_v4 (ix1 2)) := by
  refine (dat0 V c).arrAt_eq_of_covers 5 _ (by decide +kernel) fun t hf y => ?_
  rw [after0_5, outs_snd, hB_eq, b0_0, b0_0, b0_0, b0_1, b0_2, b0_3, Cert.Math.dH_rows, Cert.Math.codes_rows]
  generalize codes (dH (V c main_v5) (V c main_v6) (V c main_arg8) (V c main_v4 (ix1 0)) (V c main_v4 (ix1 1))) (V c main_v4 (ix1 2)) = G
  unfold rows
  blk_simp [i0_5]
  blk_ext! [i0_5]
  rfl

/-- The last point of the grid. -/
abbrev last0 : Fin cfg0.N := ⟨29, by decide⟩

/-- The 8 x 128 maxima of |dy| after the last point. -/
def maxY (c : Dev nD) : FVec Ideal S8x128 .f32 := (outsAt0 V c 29 (by decide)).2.2.1
/-- The 8 x 128 maxima of |dH| after the last point. -/
def maxH (c : Dev nD) : FVec Ideal S8x128 .f32 := (outsAt0 V c 29 (by decide)).2.2.2

theorem final0_6 (c : Dev nD) : (dat0 V c).arrAt 6 cfg0.N = maxY V c := by
  refine (dat0 V c).arrAt_eq_of_after_last 6 last0 (by decide +kernel) _ fun j => ?_
  rw [after0_6]
  show maxY V c _ = _
  generalize maxY V c = G
  blk_simp
  rfl
theorem final0_7 (c : Dev nD) : (dat0 V c).arrAt 7 cfg0.N = maxH V c := by
  refine (dat0 V c).arrAt_eq_of_after_last 7 last0 (by decide +kernel) _ fun j => ?_
  rw [after0_7]
  show maxH V c _ = _
  generalize maxH V c = G
  blk_simp
  rfl

/-- Every row is some block's. -/
theorem forall_rows {b : Nat} (P : Fin 15360 → Fin b → Prop) :
    (∀ (k : Fin 30) (r : Fin 512) (l : Fin b), P ⟨k.val * 512 + r.val, by omega⟩ l) ↔ ∀ r l, P r l := by
  constructor
  · intro h r l
    have := h ⟨r.val / 512, by omega⟩ ⟨r.val % 512, Nat.mod_lt _ (by norm_num)⟩ l
    have e : (⟨r.val / 512 * 512 + r.val % 512, by omega⟩ : Fin 15360) = r := Fin.ext (Nat.div_add_mod' _ _)
    rwa [e] at this
  · intro h k r l; exact h _ _

theorem rows_le {b : Nat} (x : Cert.Math.Mat 15360 b) (y : EReal) :
    (∀ (k : Fin 30) (i : (⟨2, ![512, b]⟩ : Shape).Idx), Cert.Math.abs (rows x k i) ≤ y) ↔ ∀ i, Cert.Math.abs (x i) ≤ y := by
  constructor
  · intro h i
    rw [eq_ix2 i]
    exact (forall_rows fun r l => Cert.Math.abs (x (ix2 r l)) ≤ y).mp (fun k r l => h k (ix2 r l)) (i 0) (i 1)
  · intro h k i; exact h _

/-- The largest |dy|: the 8 x 128 maxima are bounded exactly when all of dy is. -/
theorem maxY_le (c : Dev nD) (y : EReal) :
    (∀ j : S8x128.Idx, maxY V c j ≤ y) ↔ ninf ≤ y ∧ ∀ i : S15360x7168.Idx, Cert.Math.abs (V c main_v5 i) ≤ y := by
  unfold maxY
  constructor
  · intro h
    have h1 : ∀ k : Fin 30, ∀ j, (ymB (F := Ideal) (rows (V c main_v5) k) j : EReal) ≤ y := fun k j => by
      have := (outs_y V c j y 29 _).mp (h j) k.val (Nat.le_of_lt_succ k.isLt)
      rwa [b0_1] at this
    have h2 := fun k => (ymB_max _ y).mp (h1 k)
    exact ⟨(h2 0).1, (rows_le _ y).mp fun k => (h2 k).2⟩
  · intro h j
    refine (outs_y V c j y 29 _).mpr fun k hk => ?_
    rw [b0_1]
    exact (ymB_max _ y).mpr ⟨h.1, (rows_le _ y).mpr h.2 _⟩ j

/-- The largest |dH|, likewise. -/
theorem maxH_le (c : Dev nD) (y : EReal) :
    (∀ j : S8x128.Idx, maxH V c j ≤ y) ↔ ninf ≤ y ∧ ∀ i : S15360x4096.Idx, Cert.Math.abs (dHall V c i) ≤ y := by
  unfold maxH
  have eq : ∀ (t : Fin cfg0.N), (∀ j, hmB (iblk0 V c 0 t) (iblk0 V c 1 t) (iblk0 V c 2 t) (iblk0 V c 3 t) j ≤ y)
      ↔ ninf ≤ y ∧ ∀ i, Cert.Math.abs (rows (dHall V c) (p0 t) i) ≤ y := fun t => by
    rw [hmB_max, b0_0, b0_0, b0_1, b0_2, b0_3, Cert.Math.dH_rows]
  constructor
  · intro h
    have h2 := fun k : Fin 30 => (eq (k.cast N_0.symm)).mp fun j => (outs_h V c j y 29 _).mp (h j) k.val (Nat.le_of_lt_succ k.isLt)
    exact ⟨(h2 0).1, (rows_le _ y).mp fun k => (h2 k).2⟩
  · intro h j
    exact (outs_h V c j y 29 _).mpr fun k hk => (eq ⟨k, _⟩).mpr ⟨h.1, (rows_le _ y).mpr h.2 _⟩ j

end Cert.KernelIdeal.Value
-- ==== Proof.KernelValue.lean ====
/- What the four calls leave in the result buffers, from the arguments: each result of the program as the mathematics
   of Math.lean on the argument arrays. -/
module

public import proofs.«01_k».proof.Proof.KernelHost
public import proofs.«01_k».proof.Proof.Arrays
public import proofs.«01_k».proof.Proof.Dgrad1Arrays

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Math (Mat codes mulT tMul dH)

variable (m : (ℓ : Loc nD τ sig) → Buf (Elt Ideal) ℓ) (ρ : Dev nD → PrngReg) (c : Dev nD)

/-! ## The values, as functions of the arguments -/

/-- The rows of dy, of gu, of the x codes and of the a codes. -/
def dy2 : Mat 15360 7168 := shapeCast S15360x7168 (m ((c : Thread nD τ).loc main_arg0)) shapeCasts_S24x640x7168_S15360x7168
def gu2 : Mat 15360 4096 := shapeCast S15360x4096 (m ((c : Thread nD τ).loc main_arg1)) shapeCasts_S24x640x4096_S15360x4096
def x2 : Mat 15360 7168 := shapeCast S15360x7168 (m ((c : Thread nD τ).loc main_arg2)) shapeCasts_S24x640x7168_S15360x7168
def a2 : Mat 15360 2048 := shapeCast S15360x2048 (m ((c : Thread nD τ).loc main_arg4)) shapeCasts_S24x640x2048_S15360x2048
/-- The dy codes. -/
def dyc : Mat 15360 7168 := codes (dy2 m c) (sc (m ((c : Thread nD τ).loc main_arg13)))
/-- The gradient of the gate and up projections, before quantising. -/
def dHf : Mat 15360 4096 := dH (dy2 m c) (gu2 m c) (m ((c : Thread nD τ).loc main_arg8)) (sc (m ((c : Thread nD τ).loc main_arg13))) ((sc (m ((c : Thread nD τ).loc main_arg12))) * (sc (m ((c : Thread nD τ).loc main_arg9))))
/-- Its codes. -/
def dhc : Mat 15360 4096 := codes (dHf m c) (sc (m ((c : Thread nD τ).loc main_arg15)))
/-- The gradient of x and of the two weights. -/
def dxf : Mat 15360 7168 := mulT (dhc m c) (m ((c : Thread nD τ).loc main_arg6)) ((sc (m ((c : Thread nD τ).loc main_arg14))) * (sc (m ((c : Thread nD τ).loc main_arg7))))
def dw1f : Mat 7168 4096 := tMul (x2 m c) (dhc m c) ((sc (m ((c : Thread nD τ).loc main_arg3))) * (sc (m ((c : Thread nD τ).loc main_arg14))))
def dw2f : Mat 2048 7168 := tMul (a2 m c) (dyc m c) ((sc (m ((c : Thread nD τ).loc main_arg5))) * (sc (m ((c : Thread nD τ).loc main_arg12))))

/-! ## What `dgrad1` finds and leaves -/

theorem V1_v4_0 : V1 m ρ c main_v4 (ix1 0) = (sc (m ((c : Thread nD τ).loc main_arg13))) := (congrFun (ops0_v4 (W0 m ρ c)) (ix1 0)).trans (cat3_0 _ _ _)
theorem V1_v4_1 : V1 m ρ c main_v4 (ix1 1) = (sc (m ((c : Thread nD τ).loc main_arg12))) * (sc (m ((c : Thread nD τ).loc main_arg9))) :=
  (congrFun (ops0_v4 (W0 m ρ c)) (ix1 1)).trans ((cat3_1 _ _ _).trans (sc_mulf _ _))
theorem V1_v4_2 : V1 m ρ c main_v4 (ix1 2) = (sc (m ((c : Thread nD τ).loc main_arg15))) := (congrFun (ops0_v4 (W0 m ρ c)) (ix1 2)).trans (cat3_2 _ _ _)
theorem V1_v5 : V1 m ρ c main_v5 = dy2 m c := ops0_v5 (W0 m ρ c)
theorem V1_v6 : V1 m ρ c main_v6 = gu2 m c := ops0_v6 (W0 m ρ c)
theorem V1_arg8 : V1 m ρ c main_arg8 = (m ((c : Thread nD τ).loc main_arg8)) := W1_args m ρ c main_arg8 (by decide)

theorem dHall_eq : dHall (V1 m ρ) c = dHf m c := by
  unfold dHall dHf
  rw [V1_v5, V1_v6, V1_arg8, V1_v4_0, V1_v4_1]

theorem W2_v7_0 : W2 m ρ c (Proc.devRef .tc main_v7_0) = dyc m c := by
  refine (W2_arr m ρ c 4).trans ((final0_4 (V1 m ρ) c).trans ?_)
  unfold dyc
  rw [V1_v5, V1_v4_0]
theorem W2_v7_1 : W2 m ρ c (Proc.devRef .tc main_v7_1) = dhc m c := by
  refine (W2_arr m ρ c 5).trans ((final0_5 (V1 m ρ) c).trans ?_)
  unfold dhc
  rw [dHall_eq, V1_v4_2]
theorem W2_v7_2 : W2 m ρ c (Proc.devRef .tc main_v7_2) = maxY (V1 m ρ) c := (W2_arr m ρ c 6).trans (final0_6 (V1 m ρ) c)
theorem W2_v7_3 : W2 m ρ c (Proc.devRef .tc main_v7_3) = maxH (V1 m ρ) c := (W2_arr m ρ c 7).trans (final0_7 (V1 m ρ) c)

/-! ## `dgrad2` -/

theorem V3_v7_1 : V3 m ρ c main_v7_1 = dhc m c := (W3_of m ρ c main_v7_1 (by decide)).trans (W2_v7_1 m ρ c)
theorem V3_v9 : V3 m ρ c main_v9 (ix1 0) = (sc (m ((c : Thread nD τ).loc main_arg14))) * (sc (m ((c : Thread nD τ).loc main_arg7))) := by
  refine (congrFun (ops1_v9 (W2 m ρ c)) (ix1 0)).trans ((cast1 _).trans ((sc_mulf _ _).trans ?_))
  rw [W2_args m ρ c main_arg14 (by decide), W2_args m ρ c main_arg7 (by decide)]
theorem W4_v10 : W4 m ρ c (Proc.devRef .tc main_v10) = dxf m c := by
  refine (W4_arr m ρ c 3).trans ((final1 (V3 m ρ) c).trans ?_)
  unfold dxf
  rw [V3_v7_1, V3_v9]
  exact congrArg (fun w => mulT (dhc m c) w _) (W3_args m ρ c main_arg6 (by decide))

/-! ## `wgrad1` and `wgrad2` -/

theorem V5_v7_1 : V5 m ρ c main_v7_1 = dhc m c := (((W5_of m ρ c main_v7_1 (by decide)).trans (W4_of m ρ c main_v7_1 (by decide +kernel))).trans (W3_of m ρ c main_v7_1 (by decide))).trans (W2_v7_1 m ρ c)
theorem V5_v12 : V5 m ρ c main_v12 = x2 m c := by
  refine (ops2_v12 (W4 m ρ c)).trans ?_
  rw [W4_args m ρ c main_arg2 (by decide)]
  rfl
theorem V5_v13 : V5 m ρ c main_v13 (ix1 0) = (sc (m ((c : Thread nD τ).loc main_arg3))) * (sc (m ((c : Thread nD τ).loc main_arg14))) := by
  refine (congrFun (ops2_v13 (W4 m ρ c)) (ix1 0)).trans ((cast1 _).trans ((sc_mulf _ _).trans ?_))
  rw [W4_args m ρ c main_arg3 (by decide), W4_args m ρ c main_arg14 (by decide)]
theorem W6_v14 : W6 m ρ c (Proc.devRef .tc main_v14) = dw1f m c := by
  refine (W6_arr m ρ c 3).trans ((final2 (V5 m ρ) c).trans ?_)
  unfold dw1f
  rw [V5_v7_1, V5_v12, V5_v13]

theorem V7_v7_0 : V7 m ρ c main_v7_0 = dyc m c := (((((W7_of m ρ c main_v7_0 (by decide)).trans (W6_of m ρ c main_v7_0 (by decide +kernel))).trans (W5_of m ρ c main_v7_0 (by decide))).trans (W4_of m ρ c main_v7_0 (by decide +kernel))).trans (W3_of m ρ c main_v7_0 (by decide))).trans (W2_v7_0 m ρ c)
theorem V7_v16 : V7 m ρ c main_v16 = a2 m c := by
  refine (ops3_v16 (W6 m ρ c)).trans ?_
  rw [W6_args m ρ c main_arg4 (by decide)]
  rfl
theorem V7_v17 : V7 m ρ c main_v17 (ix1 0) = (sc (m ((c : Thread nD τ).loc main_arg5))) * (sc (m ((c : Thread nD τ).loc main_arg12))) := by
  refine (congrFun (ops3_v17 (W6 m ρ c)) (ix1 0)).trans ((cast1 _).trans ((sc_mulf _ _).trans ?_))
  rw [W6_args m ρ c main_arg5 (by decide), W6_args m ρ c main_arg12 (by decide)]
theorem W8_v18 : W8 m ρ c (Proc.devRef .tc main_v18) = dw2f m c := by
  refine (W8_arr m ρ c 3).trans ((final3 (V7 m ρ) c).trans ?_)
  unfold dw2f
  rw [V7_v7_0, V7_v16, V7_v17]

/-! ## The results -/

/-- dX, dW1 and dW2. -/
theorem res_v27 : W9 m ρ c (Proc.devRef .tc main_v27) = shapeCast S24x640x7168 (dxf m c) shapeCasts_S15360x7168_S24x640x7168 :=
  (ops4_v27 (W8 m ρ c)).trans (congrArg (fun x => shapeCast S24x640x7168 x shapeCasts_S15360x7168_S24x640x7168) (((((W8_of m ρ c main_v10 (by decide +kernel)).trans (W7_of m ρ c main_v10 (by decide))).trans (W6_of m ρ c main_v10 (by decide +kernel))).trans (W5_of m ρ c main_v10 (by decide))).trans (W4_v10 m ρ c)))
theorem res_v14 : W9 m ρ c (Proc.devRef .tc main_v14) = dw1f m c := (((W9_of m ρ c main_v14 (by decide)).trans (W8_of m ρ c main_v14 (by decide +kernel))).trans (W7_of m ρ c main_v14 (by decide))).trans (W6_v14 m ρ c)
theorem res_v18 : W9 m ρ c (Proc.devRef .tc main_v18) = dw2f m c := (W9_of m ρ c main_v18 (by decide)).trans (W8_v18 m ρ c)
/-- The codes of dy and of dH. -/
theorem res_v28 : W9 m ρ c (Proc.devRef .tc main_v28) = shapeCast S24x640x7168 (dyc m c) shapeCasts_S15360x7168_S24x640x7168 :=
  (ops4_v28 (W8 m ρ c)).trans (congrArg (fun x => shapeCast S24x640x7168 x shapeCasts_S15360x7168_S24x640x7168) (((((((W8_of m ρ c main_v7_0 (by decide +kernel)).trans (W7_of m ρ c main_v7_0 (by decide))).trans (W6_of m ρ c main_v7_0 (by decide +kernel))).trans (W5_of m ρ c main_v7_0 (by decide))).trans (W4_of m ρ c main_v7_0 (by decide +kernel))).trans (W3_of m ρ c main_v7_0 (by decide))).trans (W2_v7_0 m ρ c)))
theorem res_v29 : W9 m ρ c (Proc.devRef .tc main_v29) = shapeCast S24x640x4096 (dhc m c) shapeCasts_S15360x4096_S24x640x4096 :=
  (ops4_v29 (W8 m ρ c)).trans (congrArg (fun x => shapeCast S24x640x4096 x shapeCasts_S15360x4096_S24x640x4096) (((((((W8_of m ρ c main_v7_1 (by decide +kernel)).trans (W7_of m ρ c main_v7_1 (by decide))).trans (W6_of m ρ c main_v7_1 (by decide +kernel))).trans (W5_of m ρ c main_v7_1 (by decide))).trans (W4_of m ρ c main_v7_1 (by decide +kernel))).trans (W3_of m ρ c main_v7_1 (by decide))).trans (W2_v7_1 m ρ c)))
/-- The two histories. -/
theorem res_v22 : W9 m ρ c (Proc.devRef .tc main_v22) = roll (maxY (V1 m ρ) c) (m ((c : Thread nD τ).loc main_arg10)) :=
  (ops4_v22 (W8 m ρ c)).trans (congrArg₂ roll (((((((W8_of m ρ c main_v7_2 (by decide +kernel)).trans (W7_of m ρ c main_v7_2 (by decide))).trans (W6_of m ρ c main_v7_2 (by decide +kernel))).trans (W5_of m ρ c main_v7_2 (by decide))).trans (W4_of m ρ c main_v7_2 (by decide +kernel))).trans (W3_of m ρ c main_v7_2 (by decide))).trans (W2_v7_2 m ρ c)) (W8_args m ρ c main_arg10 (by decide)))
theorem res_v26 : W9 m ρ c (Proc.devRef .tc main_v26) = roll (maxH (V1 m ρ) c) (m ((c : Thread nD τ).loc main_arg11)) :=
  (ops4_v26 (W8 m ρ c)).trans (congrArg₂ roll (((((((W8_of m ρ c main_v7_3 (by decide +kernel)).trans (W7_of m ρ c main_v7_3 (by decide))).trans (W6_of m ρ c main_v7_3 (by decide +kernel))).trans (W5_of m ρ c main_v7_3 (by decide))).trans (W4_of m ρ c main_v7_3 (by decide +kernel))).trans (W3_of m ρ c main_v7_3 (by decide))).trans (W2_v7_3 m ρ c)) (W8_args m ρ c main_arg11 (by decide)))

end Cert.KernelIdeal.Value
-- ==== Proof.ReferenceBlocks.lean ====
/- The reference's one grid point, over the extended reals, as the mathematics of Math.lean on the whole arrays. -/
module

public import proofs.«01_k».proof.Proof.Gen.ReferenceIdeal.Frame
public import proofs.«01_k».proof.Proof.Math
public import Idealize.ShloMosaic.Lib.Pipeline.ValueKit

@[expose] public section

set_option maxRecDepth 16384

noncomputable section

namespace Cert.ReferenceIdeal.Blocks

open Cert.ReferenceIdeal Cert.ReferenceIdeal.Gen Idealize.ShloMosaic Idealize.ShloMosaic.TcCoe Idealize.SL.Sem
open Cert.Math (codes clip mulT tMul dg du dA dH both gate up)

theorem hz0 : (![0, 0] : Fin 2 → Nat) = fun _ => 0 := funext fun a => by fin_cases a <;> rfl

/-- A whole array read whole is the array. -/
theorem ld0 (x : Vec Ideal S15360x7168 .bf16) : View.ld x r0_0 = x := View.ld_unit_zero hz0 _ _
theorem ld0' (x : Vec Ideal S15360x7168 .fp8e4m3) : View.ld x r0_0 = x := View.ld_unit_zero hz0 _ _
theorem ld1 (x : Vec Ideal S1x1 .f32) : View.ld x r0_1 = x := View.ld_unit_zero hz0 _ _
theorem ld2 (x : Vec Ideal S2048x7168 .fp8e4m3) : View.ld x r0_2 = x := View.ld_unit_zero hz0 _ _
theorem ld5 (x : Vec Ideal S7168x4096 .fp8e4m3) : View.ld x r0_5 = x := View.ld_unit_zero hz0 _ _
theorem ld6 (x : Vec Ideal S15360x2048 .fp8e4m3) : View.ld x r0_6 = x := View.ld_unit_zero hz0 _ _

/-- The gate and up halves. -/
theorem ld3 (x : Vec Ideal S15360x4096 .bf16) : View.ld x r0_3 = gate x := by
  funext i; obtain ⟨r, l, rfl⟩ : ∃ (r : Fin 15360) (l : Fin 2048), i = ix2 r l := ⟨i 0, i 1, eq_ix2 i⟩
  unfold gate
  pointwise
theorem ld4 (x : Vec Ideal S15360x4096 .bf16) : View.ld x r0_4 = up x := by
  funext i; obtain ⟨r, l, rfl⟩ : ∃ (r : Fin 15360) (l : Fin 2048), i = ix2 r l := ⟨i 0, i 1, eq_ix2 i⟩
  unfold up
  pointwise

/-- The dy codes. -/
theorem pay1_eq (x : Vec Ideal S15360x7168 .bf16) (s : Vec Ideal S1x1 .f32) : k0_pay1 x s = codes x (s (ix2 0 0)) := by
  funext i; obtain ⟨r, l, rfl⟩ : ∃ (r : Fin 15360) (l : Fin 7168), i = ix2 r l := ⟨i 0, i 1, eq_ix2 i⟩
  unfold codes clip
  pointwise [k0_pay1]

/-- Two halves joined along the columns. -/
theorem cat_eq (A B : FVec Ideal S15360x2048 .f32) :
    concatenate S15360x4096 1 [⟨S15360x2048, A⟩, ⟨S15360x2048, B⟩] concatenates_S15360x2048_S15360x2048_S15360x4096_d1 = both A B := by
  funext i; obtain ⟨r, l, rfl⟩ : ∃ (r : Fin 15360) (l : Fin 4096), i = ix2 r l := ⟨i 0, i 1, eq_ix2 i⟩
  have hl : l.val < 4096 := l.isLt
  show _ = if h : l.val < 2048 then A (ix2 r ⟨l.val, h⟩) else B (ix2 r ⟨l.val - 2048, by omega⟩)
  by_cases h : l.val < 2048
  · rw [dif_pos h]
    pointwise
    rw [dif_pos h]
  · rw [dif_neg h]
    pointwise
    rw [dif_neg h]

/-- The activation's gradient, and the two halves of the gradient of its operand. -/
def da (C : FVec Ideal S15360x7168 .fp8e5m2) (w : Vec Ideal S2048x7168 .fp8e4m3) (s' : Vec Ideal S1x1 .f32) : FVec Ideal S15360x2048 .f32 :=
  mulf (matmul (F := Ideal) (φ₂ := .fp8e4m3) dot_S15360x7168_S2048x7168_S15360x2048_1_1_0_0_n_n none C w (constant S15360x2048 .f32 0x00000000#32))
    (broadcastTo S15360x2048 (shapeCast S1x1 s' shapeCasts_S1x1_S1x1) broadcasts_S1x1_S15360x2048)
theorem da_eq (C : FVec Ideal S15360x7168 .fp8e5m2) (w : Vec Ideal S2048x7168 .fp8e4m3) (s' : Vec Ideal S1x1 .f32) : da C w s' = mulT C w (s' (ix2 0 0)) := by
  funext i; obtain ⟨r, l, rfl⟩ : ∃ (r : Fin 15360) (l : Fin 2048), i = ix2 r l := ⟨i 0, i 1, eq_ix2 i⟩
  unfold da mulT
  pointwise
def half1 (A : FVec Ideal S15360x2048 .f32) (g u : Vec Ideal S15360x2048 .bf16) : FVec Ideal S15360x2048 .f32 :=
  mulf (mulf (mulf A (extf .f32 (shapeCast S15360x2048 u shapeCasts_S15360x2048_S15360x2048) bitsLt_bf16_f32))
      (logistic (extf .f32 (shapeCast S15360x2048 g shapeCasts_S15360x2048_S15360x2048) bitsLt_bf16_f32)))
    (addf (broadcast S15360x2048 (Scalar.ofBits (F := Ideal) .f32 0x3F800000#32))
      (mulf (extf .f32 (shapeCast S15360x2048 g shapeCasts_S15360x2048_S15360x2048) bitsLt_bf16_f32)
        (subf (broadcast S15360x2048 (Scalar.ofBits (F := Ideal) .f32 0x3F800000#32)) (logistic (extf .f32 (shapeCast S15360x2048 g shapeCasts_S15360x2048_S15360x2048) bitsLt_bf16_f32)))))
theorem half1_eq (A : FVec Ideal S15360x2048 .f32) (g u : Vec Ideal S15360x2048 .bf16) : half1 A g u = dg A g u := by
  funext i; obtain ⟨r, l, rfl⟩ : ∃ (r : Fin 15360) (l : Fin 2048), i = ix2 r l := ⟨i 0, i 1, eq_ix2 i⟩
  unfold half1 dg
  pointwise
def half2 (A : FVec Ideal S15360x2048 .f32) (g : Vec Ideal S15360x2048 .bf16) : FVec Ideal S15360x2048 .f32 :=
  mulf (mulf A (extf .f32 (shapeCast S15360x2048 g shapeCasts_S15360x2048_S15360x2048) bitsLt_bf16_f32))
    (logistic (extf .f32 (shapeCast S15360x2048 g shapeCasts_S15360x2048_S15360x2048) bitsLt_bf16_f32))
theorem half2_eq (A : FVec Ideal S15360x2048 .f32) (g : Vec Ideal S15360x2048 .bf16) : half2 A g = du A g := by
  funext i; obtain ⟨r, l, rfl⟩ : ∃ (r : Fin 15360) (l : Fin 2048), i = ix2 r l := ⟨i 0, i 1, eq_ix2 i⟩
  unfold half2 du
  pointwise

/-- The gradient of the gate and up projections. -/
theorem pay2_eq (x : Vec Ideal S15360x7168 .bf16) (s : Vec Ideal S1x1 .f32) (w : Vec Ideal S2048x7168 .fp8e4m3) (s' : Vec Ideal S1x1 .f32)
    (g u : Vec Ideal S15360x2048 .bf16) :
    k0_pay2 x s w s' g u = both (dg (dA x w (s (ix2 0 0)) (s' (ix2 0 0))) g u) (du (dA x w (s (ix2 0 0)) (s' (ix2 0 0))) g) := by
  unfold dA
  rw [← pay1_eq, ← da_eq, ← half1_eq, ← half2_eq, ← cat_eq]
  rfl

/-- Its codes. -/
theorem pay4_eq (s : Vec Ideal S1x1 .f32) (x : Vec Ideal S15360x7168 .bf16) (s0 : Vec Ideal S1x1 .f32) (w : Vec Ideal S2048x7168 .fp8e4m3) (s' : Vec Ideal S1x1 .f32)
    (g u : Vec Ideal S15360x2048 .bf16) :
    k0_pay4 (k0_pay3 x s0 w s' g u s) (Scalar.ofBits .f32 0xC7600000#32) = codes (k0_pay2 x s0 w s' g u) (s (ix2 0 0)) := by
  funext i; obtain ⟨r, l, rfl⟩ : ∃ (r : Fin 15360) (l : Fin 4096), i = ix2 r l := ⟨i 0, i 1, eq_ix2 i⟩
  unfold k0_pay3
  generalize k0_pay2 x s0 w s' g u = D
  unfold codes clip
  pointwise [k0_pay4]

theorem pay5_eq (v39 : FVec Ideal S15360x4096 .f32) (z : Elt Ideal .f32) (w : Vec Ideal S7168x4096 .fp8e4m3) (s : Vec Ideal S1x1 .f32) :
    k0_pay5 v39 z w s = mulT (k0_pay4 v39 z) w (s (ix2 0 0)) := by
  funext i; obtain ⟨r, l, rfl⟩ : ∃ (r : Fin 15360) (l : Fin 7168), i = ix2 r l := ⟨i 0, i 1, eq_ix2 i⟩
  unfold k0_pay5 mulT
  generalize k0_pay4 v39 z = C
  pointwise
theorem pay6_eq (v39 : FVec Ideal S15360x4096 .f32) (z : Elt Ideal .f32) (x : Vec Ideal S15360x7168 .fp8e4m3) (s : Vec Ideal S1x1 .f32) :
    k0_pay6 v39 z x s = tMul x (k0_pay4 v39 z) (s (ix2 0 0)) := by
  funext i; obtain ⟨r, l, rfl⟩ : ∃ (r : Fin 7168) (l : Fin 4096), i = ix2 r l := ⟨i 0, i 1, eq_ix2 i⟩
  unfold k0_pay6 tMul
  generalize k0_pay4 v39 z = C
  pointwise
theorem pay7_eq (C : FVec Ideal S15360x7168 .fp8e5m2) (a : Vec Ideal S15360x2048 .fp8e4m3) (s : Vec Ideal S1x1 .f32) :
    k0_pay7 C a s = tMul a C (s (ix2 0 0)) := by
  funext i; obtain ⟨r, l, rfl⟩ : ∃ (r : Fin 2048) (l : Fin 7168), i = ix2 r l := ⟨i 0, i 1, eq_ix2 i⟩
  unfold k0_pay7 tMul
  pointwise

/-! ## What the point writes -/

variable (x0 : Vec Ideal S15360x7168 .bf16) (x1 : Vec Ideal S15360x4096 .bf16) (x2 : Vec Ideal S15360x7168 .fp8e4m3) (x3 : Vec Ideal S15360x2048 .fp8e4m3) (x4 : Vec Ideal S7168x4096 .fp8e4m3) (x5 : Vec Ideal S2048x7168 .fp8e4m3)
  (x6 x7 x8 x9 x10 x11 : Vec Ideal S1x1 .f32)

/-- The gradient of the gate and up projections, and its codes. -/
abbrev dH' : Cert.Math.Mat 15360 4096 := dH x0 x1 x5 (x6 (ix2 0 0)) (x8 (ix2 0 0))
theorem pay2' : k0_pay2 (View.ld x0 r0_0) (View.ld x6 r0_1) (View.ld x5 r0_2) (View.ld x8 r0_1) (View.ld x1 r0_3) (View.ld x1 r0_4) = dH' x0 x1 x5 x6 x8 := by
  rw [ld0, ld1, ld2, ld1, ld3, ld4, pay2_eq]; rfl
theorem pay4' : k0_pay4 (k0_pay9 x0 x1 x2 x3 x4 x5 x6 x7 x8 x9 x10 x11) (Scalar.ofBits .f32 0xC7600000#32) = codes (dH' x0 x1 x5 x6 x8) (x7 (ix2 0 0)) := by
  unfold k0_pay9
  rw [pay4_eq, pay2', ld1]
theorem pay8' : k0_pay8 x0 x1 x2 x3 x4 x5 x6 x7 x8 x9 x10 x11 = codes x0 (x6 (ix2 0 0)) := by
  unfold k0_pay8
  rw [pay1_eq, ld0, ld1]

theorem out12 : out0_12 x0 x1 x2 x3 x4 x5 x6 x7 x8 x9 x10 x11 = mulT (codes (dH' x0 x1 x5 x6 x8) (x7 (ix2 0 0))) x4 (x9 (ix2 0 0)) := by
  unfold out0_12
  rw [View.canon_unit_zero hz0, pay5_eq, pay4', ld5, ld1]
theorem out13 : out0_13 x0 x1 x2 x3 x4 x5 x6 x7 x8 x9 x10 x11 = tMul x2 (codes (dH' x0 x1 x5 x6 x8) (x7 (ix2 0 0))) (x10 (ix2 0 0)) := by
  unfold out0_13
  rw [View.canon_unit_zero hz0, pay6_eq, pay4', ld0', ld1]
theorem out14 : out0_14 x0 x1 x2 x3 x4 x5 x6 x7 x8 x9 x10 x11 = tMul x3 (codes x0 (x6 (ix2 0 0))) (x11 (ix2 0 0)) := by
  unfold out0_14
  rw [View.canon_unit_zero hz0, pay7_eq, pay8', ld6, ld1]
theorem out15 : out0_15 x0 x1 x2 x3 x4 x5 x6 x7 x8 x9 x10 x11 = codes x0 (x6 (ix2 0 0)) := by
  unfold out0_15
  rw [View.canon_unit_zero hz0, pay8']
theorem out16 : out0_16 x0 x1 x2 x3 x4 x5 x6 x7 x8 x9 x10 x11 = codes (dH' x0 x1 x5 x6 x8) (x7 (ix2 0 0)) := by
  unfold out0_16
  rw [View.canon_unit_zero hz0, pay4']
theorem out17 : out0_17 x0 x1 x2 x3 x4 x5 x6 x7 x8 x9 x10 x11 = dH' x0 x1 x5 x6 x8 := by
  unfold out0_17
  rw [View.canon_unit_zero hz0, pay2']

end Cert.ReferenceIdeal.Blocks
-- ==== Proof.ReferenceArrays.lean ====
/- What the reference leaves in its result buffers, from the arguments. -/
module

public import proofs.«01_k».proof.Proof.ReferenceBlocks
public import proofs.«01_k».proof.Proof.Gen.ReferenceIdeal.Run

@[expose] public section

set_option maxRecDepth 16384

noncomputable section

namespace Cert.ReferenceIdeal.Arrays

open Cert.ReferenceIdeal Cert.ReferenceIdeal.Gen Cert.ReferenceIdeal.Blocks Idealize.ShloMosaic Idealize.ShloMosaic.TcCoe Idealize.SL.Sem Idealize.ShloMosaic.StableHlo
open Cert.Math (Mat codes mulT tMul dH)

variable (m : (ℓ : Loc nD τ sig) → Buf (Elt Ideal) ℓ) (c : Dev nD)

/-- A scalar's value. -/
def sc (v : FVec Ideal S_ .f32) : EReal := v ix0
theorem sc_mulf (a b : FVec Ideal S_ .f32) : sc (mulf a b) = sc a * sc b := rfl
theorem cast11 (a : FVec Ideal S_ .f32) : shapeCast S1x1 a shapeCasts_S_S1x1 (ix2 0 0) = sc a := by
  unfold sc
  pointwise

/-! ## The kernel's inputs, from the arguments -/

/-- The rows of dy, of gu, of the x codes and of the a codes. -/
def dy2 : Mat 15360 7168 := shapeCast S15360x7168 (m ((c : Thread nD τ).loc main_arg0)) shapeCasts_S24x640x7168_S15360x7168
def gu2 : Mat 15360 4096 := shapeCast S15360x4096 (m ((c : Thread nD τ).loc main_arg1)) shapeCasts_S24x640x4096_S15360x4096
def x2 : Mat 15360 7168 := shapeCast S15360x7168 (m ((c : Thread nD τ).loc main_arg2)) shapeCasts_S24x640x7168_S15360x7168
def a2 : Mat 15360 2048 := shapeCast S15360x2048 (m ((c : Thread nD τ).loc main_arg4)) shapeCasts_S24x640x2048_S15360x2048
/-- The dy codes. -/
def dyc : Mat 15360 7168 := codes (dy2 m c) (sc (m ((c : Thread nD τ).loc main_arg13)))
/-- The gradient of the gate and up projections, before quantising. -/
def dHf : Mat 15360 4096 := dH (dy2 m c) (gu2 m c) (m ((c : Thread nD τ).loc main_arg8)) (sc (m ((c : Thread nD τ).loc main_arg13))) ((sc (m ((c : Thread nD τ).loc main_arg12))) * (sc (m ((c : Thread nD τ).loc main_arg9))))
/-- Its codes. -/
def dhc : Mat 15360 4096 := codes (dHf m c) (sc (m ((c : Thread nD τ).loc main_arg15)))
/-- The gradient of x and of the two weights. -/
def dxf : Mat 15360 7168 := mulT (dhc m c) (m ((c : Thread nD τ).loc main_arg6)) ((sc (m ((c : Thread nD τ).loc main_arg14))) * (sc (m ((c : Thread nD τ).loc main_arg7))))
def dw1f : Mat 7168 4096 := tMul (x2 m c) (dhc m c) ((sc (m ((c : Thread nD τ).loc main_arg3))) * (sc (m ((c : Thread nD τ).loc main_arg14))))
def dw2f : Mat 2048 7168 := tMul (a2 m c) (dyc m c) ((sc (m ((c : Thread nD τ).loc main_arg5))) * (sc (m ((c : Thread nD τ).loc main_arg12))))

theorem V_v0 : V m c main_v0 = dy2 m c := by
  show after hostOps0 _ (Proc.devRef .tc main_v0) = _
  after_results <;> rfl
theorem V_v1 : V m c main_v1 = gu2 m c := by
  show after hostOps0 _ (Proc.devRef .tc main_v1) = _
  after_results <;> rfl
theorem V_v2 : V m c main_v2 = x2 m c := by
  show after hostOps0 _ (Proc.devRef .tc main_v2) = _
  after_results <;> rfl
theorem V_v3 : V m c main_v3 = a2 m c := by
  show after hostOps0 _ (Proc.devRef .tc main_v3) = _
  after_results <;> rfl
theorem V_v4 : V m c main_v4 (ix2 0 0) = (sc (m ((c : Thread nD τ).loc main_arg13))) := by
  have h : V m c main_v4 = shapeCast S1x1 (m ((c : Thread nD τ).loc main_arg13)) shapeCasts_S_S1x1 := by
    show after hostOps0 _ (Proc.devRef .tc main_v4) = _
    after_results <;> rfl
  exact (congrFun h (ix2 0 0)).trans (cast11 _)
theorem V_v5 : V m c main_v5 (ix2 0 0) = (sc (m ((c : Thread nD τ).loc main_arg15))) := by
  have h : V m c main_v5 = shapeCast S1x1 (m ((c : Thread nD τ).loc main_arg15)) shapeCasts_S_S1x1 := by
    show after hostOps0 _ (Proc.devRef .tc main_v5) = _
    after_results <;> rfl
  exact (congrFun h (ix2 0 0)).trans (cast11 _)
theorem V_v7 : V m c main_v7 (ix2 0 0) = (sc (m ((c : Thread nD τ).loc main_arg12))) * (sc (m ((c : Thread nD τ).loc main_arg9))) := by
  have h : V m c main_v7 = shapeCast S1x1 (mulf (F := Ideal) (φ := .f32) (m ((c : Thread nD τ).loc main_arg12)) (m ((c : Thread nD τ).loc main_arg9))) shapeCasts_S_S1x1 := by
    show after hostOps0 _ (Proc.devRef .tc main_v7) = _
    after_results <;> rfl
  exact (congrFun h (ix2 0 0)).trans ((cast11 _).trans (sc_mulf _ _))
theorem V_v9 : V m c main_v9 (ix2 0 0) = (sc (m ((c : Thread nD τ).loc main_arg14))) * (sc (m ((c : Thread nD τ).loc main_arg7))) := by
  have h : V m c main_v9 = shapeCast S1x1 (mulf (F := Ideal) (φ := .f32) (m ((c : Thread nD τ).loc main_arg14)) (m ((c : Thread nD τ).loc main_arg7))) shapeCasts_S_S1x1 := by
    show after hostOps0 _ (Proc.devRef .tc main_v9) = _
    after_results <;> rfl
  exact (congrFun h (ix2 0 0)).trans ((cast11 _).trans (sc_mulf _ _))
theorem V_v11 : V m c main_v11 (ix2 0 0) = (sc (m ((c : Thread nD τ).loc main_arg3))) * (sc (m ((c : Thread nD τ).loc main_arg14))) := by
  have h : V m c main_v11 = shapeCast S1x1 (mulf (F := Ideal) (φ := .f32) (m ((c : Thread nD τ).loc main_arg3)) (m ((c : Thread nD τ).loc main_arg14))) shapeCasts_S_S1x1 := by
    show after hostOps0 _ (Proc.devRef .tc main_v11) = _
    after_results <;> rfl
  exact (congrFun h (ix2 0 0)).trans ((cast11 _).trans (sc_mulf _ _))
theorem V_v13 : V m c main_v13 (ix2 0 0) = (sc (m ((c : Thread nD τ).loc main_arg5))) * (sc (m ((c : Thread nD τ).loc main_arg12))) := by
  have h : V m c main_v13 = shapeCast S1x1 (mulf (F := Ideal) (φ := .f32) (m ((c : Thread nD τ).loc main_arg5)) (m ((c : Thread nD τ).loc main_arg12))) shapeCasts_S_S1x1 := by
    show after hostOps0 _ (Proc.devRef .tc main_v13) = _
    after_results <;> rfl
  exact (congrFun h (ix2 0 0)).trans ((cast11 _).trans (sc_mulf _ _))

/-! ## The windows' blocks: each input is one whole block -/

theorem i0 : ∀ t : Fin grid0.N, win0_0.index t = ![0, 0] := by decide +kernel
theorem i1 : ∀ t : Fin grid0.N, win0_1.index t = ![0, 0] := by decide +kernel
theorem i2 : ∀ t : Fin grid0.N, win0_2.index t = ![0, 0] := by decide +kernel
theorem i3 : ∀ t : Fin grid0.N, win0_3.index t = ![0, 0] := by decide +kernel
theorem i4 : ∀ t : Fin grid0.N, win0_4.index t = ![0, 0] := by decide +kernel
theorem i5 : ∀ t : Fin grid0.N, win0_5.index t = ![0, 0] := by decide +kernel
theorem i6 : ∀ t : Fin grid0.N, win0_6.index t = ![0, 0] := by decide +kernel
theorem i7 : ∀ t : Fin grid0.N, win0_7.index t = ![0, 0] := by decide +kernel
theorem i8 : ∀ t : Fin grid0.N, win0_8.index t = ![0, 0] := by decide +kernel
theorem i9 : ∀ t : Fin grid0.N, win0_9.index t = ![0, 0] := by decide +kernel
theorem i10 : ∀ t : Fin grid0.N, win0_10.index t = ![0, 0] := by decide +kernel
theorem i11 : ∀ t : Fin grid0.N, win0_11.index t = ![0, 0] := by decide +kernel
theorem i12 : ∀ t : Fin grid0.N, win0_12.index t = ![0, 0] := by decide +kernel
theorem i13 : ∀ t : Fin grid0.N, win0_13.index t = ![0, 0] := by decide +kernel
theorem i14 : ∀ t : Fin grid0.N, win0_14.index t = ![0, 0] := by decide +kernel
theorem i15 : ∀ t : Fin grid0.N, win0_15.index t = ![0, 0] := by decide +kernel
theorem i16 : ∀ t : Fin grid0.N, win0_16.index t = ![0, 0] := by decide +kernel
theorem i17 : ∀ t : Fin grid0.N, win0_17.index t = ![0, 0] := by decide +kernel
theorem b0 (t : Fin cfg0.N) : iblk m c 0 t = V m c main_v0 := by
  funext y
  blk_simp [iblk, i0]
  blk_ext! [i0]
theorem b1 (t : Fin cfg0.N) : iblk m c 1 t = V m c main_v1 := by
  funext y
  blk_simp [iblk, i1]
  blk_ext! [i1]
theorem b2 (t : Fin cfg0.N) : iblk m c 2 t = V m c main_v2 := by
  funext y
  blk_simp [iblk, i2]
  blk_ext! [i2]
theorem b3 (t : Fin cfg0.N) : iblk m c 3 t = V m c main_v3 := by
  funext y
  blk_simp [iblk, i3]
  blk_ext! [i3]
theorem b4 (t : Fin cfg0.N) : iblk m c 4 t = V m c main_arg6 := by
  funext y
  blk_simp [iblk, i4]
  blk_ext! [i4]
theorem b5 (t : Fin cfg0.N) : iblk m c 5 t = V m c main_arg8 := by
  funext y
  blk_simp [iblk, i5]
  blk_ext! [i5]
theorem b6 (t : Fin cfg0.N) : iblk m c 6 t = V m c main_v4 := by
  funext y
  blk_simp [iblk, i6]
  blk_ext! [i6]
theorem b7 (t : Fin cfg0.N) : iblk m c 7 t = V m c main_v5 := by
  funext y
  blk_simp [iblk, i7]
  blk_ext! [i7]
theorem b8 (t : Fin cfg0.N) : iblk m c 8 t = V m c main_v7 := by
  funext y
  blk_simp [iblk, i8]
  blk_ext! [i8]
theorem b9 (t : Fin cfg0.N) : iblk m c 9 t = V m c main_v9 := by
  funext y
  blk_simp [iblk, i9]
  blk_ext! [i9]
theorem b10 (t : Fin cfg0.N) : iblk m c 10 t = V m c main_v11 := by
  funext y
  blk_simp [iblk, i10]
  blk_ext! [i10]
theorem b11 (t : Fin cfg0.N) : iblk m c 11 t = V m c main_v13 := by
  funext y
  blk_simp [iblk, i11]
  blk_ext! [i11]

/-! ## The arrays -/

theorem aft0 (t : Fin cfg0.N) : (dats m 0 c).after 12 t = dxf m c := by
  rw [after0_12, out12]
  unfold dH'
  rw [b0, b1, b5, b6, b8, b7, b4, b9]
  rw [V_v0, V_v1, V_main_arg8, V_v4, V_v7, V_v5, V_main_arg6, V_v9]
  rfl
theorem reg0 : Value.reg_main_v14_0 m c = dxf m c := by
  unfold Value.reg_main_v14_0
  refine (dats m 0 c).arrAt_eq_of_covers 12 _ (by decide +kernel) fun t hf y => ?_
  rw [aft0]
  generalize dxf m c = G
  blk_simp [i12]
  blk_ext! [i12]
theorem aft1 (t : Fin cfg0.N) : (dats m 0 c).after 13 t = dw1f m c := by
  rw [after0_13, out13]
  unfold dH'
  rw [b0, b1, b5, b6, b8, b7, b2, b10]
  rw [V_v0, V_v1, V_main_arg8, V_v4, V_v7, V_v5, V_v2, V_v11]
  rfl
theorem reg1 : Value.reg_main_v14_1 m c = dw1f m c := by
  unfold Value.reg_main_v14_1
  refine (dats m 0 c).arrAt_eq_of_covers 13 _ (by decide +kernel) fun t hf y => ?_
  rw [aft1]
  generalize dw1f m c = G
  blk_simp [i13]
  blk_ext! [i13]
theorem aft2 (t : Fin cfg0.N) : (dats m 0 c).after 14 t = dw2f m c := by
  rw [after0_14, out14]
  rw [b0, b6, b3, b11]
  rw [V_v0, V_v4, V_v3, V_v13]
  rfl
theorem reg2 : Value.reg_main_v14_2 m c = dw2f m c := by
  unfold Value.reg_main_v14_2
  refine (dats m 0 c).arrAt_eq_of_covers 14 _ (by decide +kernel) fun t hf y => ?_
  rw [aft2]
  generalize dw2f m c = G
  blk_simp [i14]
  blk_ext! [i14]
theorem aft3 (t : Fin cfg0.N) : (dats m 0 c).after 15 t = dyc m c := by
  rw [after0_15, out15]
  rw [b0, b6]
  rw [V_v0, V_v4]
  rfl
theorem reg3 : Value.reg_main_v14_3 m c = dyc m c := by
  unfold Value.reg_main_v14_3
  refine (dats m 0 c).arrAt_eq_of_covers 15 _ (by decide +kernel) fun t hf y => ?_
  rw [aft3]
  generalize dyc m c = G
  blk_simp [i15]
  blk_ext! [i15]
theorem aft4 (t : Fin cfg0.N) : (dats m 0 c).after 16 t = dhc m c := by
  rw [after0_16, out16]
  unfold dH'
  rw [b0, b1, b5, b6, b8, b7]
  rw [V_v0, V_v1, V_main_arg8, V_v4, V_v7, V_v5]
  rfl
theorem reg4 : Value.reg_main_v14_4 m c = dhc m c := by
  unfold Value.reg_main_v14_4
  refine (dats m 0 c).arrAt_eq_of_covers 16 _ (by decide +kernel) fun t hf y => ?_
  rw [aft4]
  generalize dhc m c = G
  blk_simp [i16]
  blk_ext! [i16]
theorem aft5 (t : Fin cfg0.N) : (dats m 0 c).after 17 t = dHf m c := by
  rw [after0_17, out17]
  unfold dH'
  rw [b0, b1, b5, b6, b8]
  rw [V_v0, V_v1, V_main_arg8, V_v4, V_v7]
  rfl
theorem reg5 : Value.reg_main_v14_5 m c = dHf m c := by
  unfold Value.reg_main_v14_5
  refine (dats m 0 c).arrAt_eq_of_covers 17 _ (by decide +kernel) fun t hf y => ?_
  rw [aft5]
  generalize dHf m c = G
  blk_simp [i17]
  blk_ext! [i17]

end Cert.ReferenceIdeal.Arrays
-- ==== Proof.Largest.lean ====
/- The largest element of an array, however the reduction groups it. -/
module

public import proofs.«01_k».proof.Proof.Math

@[expose] public section

noncomputable section

namespace Cert.Math

open Idealize.ShloMosaic

/-- The largest element of a whole array is at most `y` exactly when minus infinity and every element are. -/
theorem reduce_le {s t u : Shape} {axes : List (Fin s.rank)} (x : s.Idx → EReal) (init : u.Idx → EReal) (h : s.ReducesTo axes t) (hu : 0 < u.numel)
    (ht : t.rank = 0) (j : t.Idx) (y : EReal) (hi : init (Shape.Idx.first hu) = ninf) :
    Host.reduce (FloatOps.maximumf (F := Ideal) (φ := .f32)) x init h hu j ≤ y ↔ ninf ≤ y ∧ ∀ i, x i ≤ y := by
  have e : Host.reduce (FloatOps.maximumf (F := Ideal) (φ := .f32)) x init h hu j
      = (Finset.univ.filter fun i => h.drop i = j).fold max (init (Shape.Idx.first hu)) x := Host.reduce_eq_fold (max : EReal → EReal → EReal) x init h hu j
  have hj : ∀ i, h.drop i = j := fun i => funext fun a => absurd a.isLt (by omega)
  rw [e, Finset.fold_max_le, hi]
  simp [hj]

/-- Every element of a reshaped array is some element of the array, and every one is reached. -/
theorem forall_shapeCast {s t : Shape} (v : s.Idx → EReal) (h : s.ShapeCasts t) (p : EReal → Prop) :
    (∀ j, p (shapeCast t v h j)) ↔ ∀ i, p (v i) :=
  ⟨fun H i => by have := H ((Shape.reshapeEquiv h).symm i); unfold shapeCast at this; rwa [Equiv.apply_symm_apply] at this, fun H j => H _⟩

end Cert.Math
-- ==== Proof.Agree.lean ====
/- The kernel's results and the reference's are equal, from memories that agree on the arguments. -/
module

public import proofs.«01_k».proof.Proof.KernelValue
public import proofs.«01_k».proof.Proof.ReferenceArrays
public import proofs.«01_k».proof.Proof.Largest

@[expose] public section

set_option maxRecDepth 16384

noncomputable section

namespace Cert.Agree

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories agree on every argument. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable {m m' c} (h : Same m m' c)
include h

theorem dy2_eq : Cert.ReferenceIdeal.Arrays.dy2 m' c = Cert.KernelIdeal.Value.dy2 m c := by
  unfold Cert.ReferenceIdeal.Arrays.dy2 Cert.KernelIdeal.Value.dy2
  rw [h.a0]
theorem gu2_eq : Cert.ReferenceIdeal.Arrays.gu2 m' c = Cert.KernelIdeal.Value.gu2 m c := by
  unfold Cert.ReferenceIdeal.Arrays.gu2 Cert.KernelIdeal.Value.gu2
  rw [h.a1]
theorem x2_eq : Cert.ReferenceIdeal.Arrays.x2 m' c = Cert.KernelIdeal.Value.x2 m c := by
  unfold Cert.ReferenceIdeal.Arrays.x2 Cert.KernelIdeal.Value.x2
  rw [h.a2]
theorem a2_eq : Cert.ReferenceIdeal.Arrays.a2 m' c = Cert.KernelIdeal.Value.a2 m c := by
  unfold Cert.ReferenceIdeal.Arrays.a2 Cert.KernelIdeal.Value.a2
  rw [h.a4]
theorem dyc_eq : Cert.ReferenceIdeal.Arrays.dyc m' c = Cert.KernelIdeal.Value.dyc m c := by
  unfold Cert.ReferenceIdeal.Arrays.dyc Cert.KernelIdeal.Value.dyc
  rw [dy2_eq h, h.a13]
  rfl
theorem dHf_eq : Cert.ReferenceIdeal.Arrays.dHf m' c = Cert.KernelIdeal.Value.dHf m c := by
  unfold Cert.ReferenceIdeal.Arrays.dHf Cert.KernelIdeal.Value.dHf
  rw [dy2_eq h, gu2_eq h, h.a8, h.a13, h.a12, h.a9]
  rfl
theorem dhc_eq : Cert.ReferenceIdeal.Arrays.dhc m' c = Cert.KernelIdeal.Value.dhc m c := by
  unfold Cert.ReferenceIdeal.Arrays.dhc Cert.KernelIdeal.Value.dhc
  rw [dHf_eq h, h.a15]
  rfl
theorem dxf_eq : Cert.ReferenceIdeal.Arrays.dxf m' c = Cert.KernelIdeal.Value.dxf m c := by
  unfold Cert.ReferenceIdeal.Arrays.dxf Cert.KernelIdeal.Value.dxf
  rw [dhc_eq h, h.a6, h.a14, h.a7]
  rfl
theorem dw1f_eq : Cert.ReferenceIdeal.Arrays.dw1f m' c = Cert.KernelIdeal.Value.dw1f m c := by
  unfold Cert.ReferenceIdeal.Arrays.dw1f Cert.KernelIdeal.Value.dw1f
  rw [x2_eq h, dhc_eq h, h.a3, h.a14]
  rfl
theorem dw2f_eq : Cert.ReferenceIdeal.Arrays.dw2f m' c = Cert.KernelIdeal.Value.dw2f m c := by
  unfold Cert.ReferenceIdeal.Arrays.dw2f Cert.KernelIdeal.Value.dw2f
  rw [a2_eq h, dyc_eq h, h.a5, h.a12]
  rfl

omit h in
/-- The largest of |dy|, and of |dH|, in the kernel. -/
theorem kernel_amax_dy (ρ : Dev Cert.KernelIdeal.nD → PrngReg) (hr : Cert.KernelIdeal.S8x128.ReducesTo [0, 1] Cert.KernelIdeal.S_) (hu : 0 < Cert.KernelIdeal.S_.numel) (y : EReal) (j : Cert.KernelIdeal.S_.Idx) :
    (Host.reduce (FloatOps.maximumf (F := Ideal) (φ := .f32)) (Cert.KernelIdeal.Value.maxY (Cert.KernelIdeal.Gen.V1 m ρ) c)
      (constant (F := Ideal) Cert.KernelIdeal.S_ .f32 0xFF800000#32) hr hu j : EReal) ≤ y
    ↔ Cert.Math.ninf ≤ y ∧ ∀ i, Cert.Math.abs (Cert.KernelIdeal.Value.dy2 m c i) ≤ y := by
  refine (Cert.Math.reduce_le _ _ _ _ rfl _ _ rfl).trans ?_
  have := Cert.KernelIdeal.Value.maxY_le (Cert.KernelIdeal.Gen.V1 m ρ) c y
  rw [Cert.KernelIdeal.Value.V1_v5] at this
  exact ⟨fun H => this.1 H.2, fun H => ⟨H.1, this.2 H⟩⟩
omit h in
theorem kernel_amax_dH (ρ : Dev Cert.KernelIdeal.nD → PrngReg) (hr : Cert.KernelIdeal.S8x128.ReducesTo [0, 1] Cert.KernelIdeal.S_) (hu : 0 < Cert.KernelIdeal.S_.numel) (y : EReal) (j : Cert.KernelIdeal.S_.Idx) :
    (Host.reduce (FloatOps.maximumf (F := Ideal) (φ := .f32)) (Cert.KernelIdeal.Value.maxH (Cert.KernelIdeal.Gen.V1 m ρ) c)
      (constant (F := Ideal) Cert.KernelIdeal.S_ .f32 0xFF800000#32) hr hu j : EReal) ≤ y
    ↔ Cert.Math.ninf ≤ y ∧ ∀ i, Cert.Math.abs (Cert.KernelIdeal.Value.dHf m c i) ≤ y := by
  refine (Cert.Math.reduce_le _ _ _ _ rfl _ _ rfl).trans ?_
  have := Cert.KernelIdeal.Value.maxH_le (Cert.KernelIdeal.Gen.V1 m ρ) c y
  rw [Cert.KernelIdeal.Value.dHall_eq] at this
  exact ⟨fun H => this.1 H.2, fun H => ⟨H.1, this.2 H⟩⟩

/-- The reference's largest of |dy| is the kernel's, and so is that of |dH|. -/
theorem amax_dy (ρ : Dev Cert.KernelIdeal.nD → PrngReg) (hb : FTy.bits .bf16 < FTy.bits .f32) (hr : Cert.KernelIdeal.S8x128.ReducesTo [0, 1] Cert.KernelIdeal.S_) (hu : 0 < Cert.KernelIdeal.S_.numel)
    (hr' : Cert.ReferenceIdeal.S24x640x7168.ReducesTo [0, 1, 2] Cert.ReferenceIdeal.S_) (hu' : 0 < Cert.ReferenceIdeal.S_.numel) :
    Host.reduce (FloatOps.maximumf (F := Ideal) (φ := .f32)) (Host.absf (extf .f32 (m' ((c.tc : Thread Cert.ReferenceIdeal.nD Cert.ReferenceIdeal.τ).loc Cert.ReferenceIdeal.main_arg0)) hb))
      (constant (F := Ideal) Cert.ReferenceIdeal.S_ .f32 0xFF800000#32) hr' hu'
    = Host.reduce (FloatOps.maximumf (F := Ideal) (φ := .f32)) (Cert.KernelIdeal.Value.maxY (Cert.KernelIdeal.Gen.V1 m ρ) c)
      (constant (F := Ideal) Cert.KernelIdeal.S_ .f32 0xFF800000#32) hr hu := by
  funext j
  refine eq_of_forall_ge_iff (α := EReal) fun y => ?_
  refine (Cert.Math.reduce_le _ _ _ _ rfl _ _ rfl).trans (Iff.trans ?_ (kernel_amax_dy ρ hr hu y j).symm)
  rw [← dy2_eq h]
  exact and_congr_right fun _ => (Cert.Math.forall_shapeCast _ _ (fun v => Cert.Math.abs v ≤ y)).symm
theorem amax_dH (ρ : Dev Cert.KernelIdeal.nD → PrngReg) (hr : Cert.KernelIdeal.S8x128.ReducesTo [0, 1] Cert.KernelIdeal.S_) (hu : 0 < Cert.KernelIdeal.S_.numel)
    (hr' : Cert.ReferenceIdeal.S15360x4096.ReducesTo [0, 1] Cert.ReferenceIdeal.S_) (hu' : 0 < Cert.ReferenceIdeal.S_.numel) :
    Host.reduce (FloatOps.maximumf (F := Ideal) (φ := .f32)) (Host.absf (F := Ideal) (φ := .f32) (Cert.ReferenceIdeal.Arrays.dHf m' c))
      (constant (F := Ideal) Cert.ReferenceIdeal.S_ .f32 0xFF800000#32) hr' hu'
    = Host.reduce (FloatOps.maximumf (F := Ideal) (φ := .f32)) (Cert.KernelIdeal.Value.maxH (Cert.KernelIdeal.Gen.V1 m ρ) c)
      (constant (F := Ideal) Cert.KernelIdeal.S_ .f32 0xFF800000#32) hr hu := by
  funext j
  refine eq_of_forall_ge_iff (α := EReal) fun y => ?_
  refine (Cert.Math.reduce_le _ _ _ _ rfl _ _ rfl).trans (Iff.trans ?_ (kernel_amax_dH ρ hr hu y j).symm)
  rw [dHf_eq h]
  exact Iff.rfl

end Cert.Agree
-- ==== Proof.ScalesHost.lean ====
/- The operations in front of the first call, from the histories: the scales and the call's operands as functions of the
   arguments. -/
module

public import proofs.«01_k».proof.Proof.Gen.Scales.Frame
public import Idealize.ShloMosaic.Lib.Pipeline.ValueKit

@[expose] public section

set_option maxRecDepth 65536

noncomputable section

namespace Cert.Scales.Host

open Cert.Scales Cert.Scales.Gen Idealize.ShloMosaic Idealize.ShloMosaic.TcCoe Idealize.SL.Sem Idealize.ShloMosaic.StableHlo

/-! ## The scale, as a function of the history -/

/-- The exponent of a number, as the word function that splits a float into fraction and exponent computes it: of an
    infinity, a NaN, a zero or a subnormal it is 0. -/
def exponent (x : FVec Bits S_ .f32) : IVec S_ 32 :=
  let w := bitcastToInt x
  let w := bitcastToInt (bitcastToFloat .f32 (select (cmpi .eq (andi w (constantI S_ 32 2139095040#32)) (constantI S_ 32 0#32)) (andi w (constantI S_ 32 2147483648#32)) w) : FVec Bits S_ .f32)
  let e := andi (Host.shrui w (constantI S_ 32 23#32)) (constantI S_ 32 255#32)
  select (ori (cmpi .eq e (constantI S_ 32 255#32)) (cmpi .eq e (constantI S_ 32 0#32))) (constantI S_ 32 0#32)
    (subi e (constantI S_ 32 126#32))

/-- `x` times two to the power `n`, as the word function computes it. -/
def timesPow (x : FVec Bits S_ .f32) (n : IVec S_ 32) : FVec Bits S_ .f32 :=
  let w := bitcastToInt x
  let w := bitcastToInt (bitcastToFloat .f32 (select (cmpi .eq (andi w (constantI S_ 32 2139095040#32)) (constantI S_ 32 0#32)) (andi w (constantI S_ 32 2147483648#32)) w) : FVec Bits S_ .f32)
  let sign := andi w (constantI S_ 32 2147483648#32)
  let e := andi (Host.shrui w (constantI S_ 32 23#32)) (constantI S_ 32 255#32)
  let s := addi e (minsi (maxsi n (constantI S_ 32 4294966784#32)) (constantI S_ 32 512#32))
  bitcastToFloat .f32 (select (cmpi .eq e (constantI S_ 32 255#32)) w (select (cmpi .eq e (constantI S_ 32 0#32)) sign
    (select (cmpi .sle s (constantI S_ 32 0#32)) sign (select (cmpi .sge s (constantI S_ 32 255#32)) (ori sign (constantI S_ 32 2139095040#32))
      (ori (ori sign (Host.shli s (constantI S_ 32 23#32))) (andi w (constantI S_ 32 8388607#32)))))))

/-- The largest entry of a history. -/
def largest (hist : FVec Bits S16 .f32) : FVec Bits S_ .f32 :=
  Host.reduce FloatOps.maximumf hist (constant S_ .f32 0xFF800000#32) reducesTo_S16_S_d0 h_S_
/-- The exponent of the scale: that of the largest entry over 57344, and 0 when that entry is 0. -/
def scaleExp (hist : FVec Bits S16 .f32) : IVec S_ 32 :=
  select (cmpf .oeq (largest hist) (constant S_ .f32 0x00000000#32)) (constantI S_ 32 0#32)
    (exponent (mulf (largest hist) (constant S_ .f32 0x37924925#32)))
/-- The scale and its inverse. -/
def scale (hist : FVec Bits S16 .f32) : FVec Bits S_ .f32 := timesPow (constant S_ .f32 0x3F800000#32) (scaleExp hist)
def inverse (hist : FVec Bits S16 .f32) : FVec Bits S_ .f32 := timesPow (constant S_ .f32 0x3F800000#32) (negi (scaleExp hist))

/-! ## The stretches of operations, each from any contents `W` -/

variable (W : Valuation τ sig (Elt Bits))

/-- What stretch 0 writes. -/
def wr0 : List (Ref sig .tc) := [main_cst, main_v0, main_cst_0, main_v1]
theorem keep0 (r : Ref sig .tc) (hr : r ∉ wr0) : after hostOps0 W (Proc.devRef .tc r) = W (Proc.devRef .tc r) :=
  after_of_writes_sub hostOps0 W (forall_writes_sub_of_map (W := wr0) rfl) hr
/-- What stretch 1 writes. -/
def wr1 : List (Ref sig .tc) := [main_call0_v0, main_call0_c, main_call0_v1, main_call0_c_0, main_call0_v2, main_call0_c_1, main_call0_v3, main_call0_v4, main_call0_v5, main_call0_v6, main_call0_c_2, main_call0_v7, main_call0_c_3, main_call0_v8, main_call0_c_4, main_call0_v9, main_call0_c_5, main_call0_v10, main_call0_c_6, main_call0_v11, main_call0_c_7, main_call0_v12, main_call0_c_8, main_call0_v13, main_call0_v14, main_call0_v15, main_call0_v16, main_call0_v17, main_call0_v18, main_call0_c_9, main_call0_v19, main_call0_c_10, main_v2_1, main_v2_0]
theorem keep1 (r : Ref sig .tc) (hr : r ∉ wr1) : after hostOps0_1 W (Proc.devRef .tc r) = W (Proc.devRef .tc r) :=
  after_of_writes_sub hostOps0_1 W (forall_writes_sub_of_map (W := wr1) rfl) hr
/-- What stretch 2 writes. -/
def wr2 : List (Ref sig .tc) := [main_cst_1, main_v3, main_cst_2, main_v4, main_c]
theorem keep2 (r : Ref sig .tc) (hr : r ∉ wr2) : after hostOps0_2 W (Proc.devRef .tc r) = W (Proc.devRef .tc r) :=
  after_of_writes_sub hostOps0_2 W (forall_writes_sub_of_map (W := wr2) rfl) hr
/-- What stretch 3 writes. -/
def wr3 : List (Ref sig .tc) := [main_call1_v0, main_v5]
theorem keep3 (r : Ref sig .tc) (hr : r ∉ wr3) : after hostOps0_3 W (Proc.devRef .tc r) = W (Proc.devRef .tc r) :=
  after_of_writes_sub hostOps0_3 W (forall_writes_sub_of_map (W := wr3) rfl) hr
/-- What stretch 4 writes. -/
def wr4 : List (Ref sig .tc) := [main_cst_3]
theorem keep4 (r : Ref sig .tc) (hr : r ∉ wr4) : after hostOps0_4 W (Proc.devRef .tc r) = W (Proc.devRef .tc r) :=
  after_of_writes_sub hostOps0_4 W (forall_writes_sub_of_map (W := wr4) rfl) hr
/-- What stretch 5 writes. -/
def wr5 : List (Ref sig .tc) := [main_call2_v0, main_call2_c, main_call2_v1, main_call2_c_0, main_call2_v2, main_call2_c_1, main_call2_v3, main_call2_v4, main_call2_v5, main_call2_v6, main_call2_c_2, main_call2_v7, main_call2_c_3, main_call2_v8, main_call2_c_4, main_call2_v9, main_call2_c_5, main_call2_v10, main_call2_c_6, main_call2_v11, main_call2_c_7, main_call2_v12, main_call2_c_8, main_call2_c_9, main_call2_v13, main_call2_v14, main_call2_v15, main_call2_c_10, main_call2_v16, main_call2_v17, main_call2_c_11, main_call2_v18, main_call2_v19, main_call2_v20, main_call2_c_12, main_call2_v21, main_call2_c_13, main_call2_v22, main_call2_v23, main_call2_v24, main_call2_v25, main_call2_v26, main_v6]
theorem keep5 (r : Ref sig .tc) (hr : r ∉ wr5) : after hostOps0_5 W (Proc.devRef .tc r) = W (Proc.devRef .tc r) :=
  after_of_writes_sub hostOps0_5 W (forall_writes_sub_of_map (W := wr5) rfl) hr
/-- What stretch 6 writes. -/
def wr6 : List (Ref sig .tc) := [main_v7, main_cst_4]
theorem keep6 (r : Ref sig .tc) (hr : r ∉ wr6) : after hostOps0_6 W (Proc.devRef .tc r) = W (Proc.devRef .tc r) :=
  after_of_writes_sub hostOps0_6 W (forall_writes_sub_of_map (W := wr6) rfl) hr
/-- What stretch 7 writes. -/
def wr7 : List (Ref sig .tc) := [main_call3_v0, main_call3_c, main_call3_v1, main_call3_c_0, main_call3_v2, main_call3_c_1, main_call3_v3, main_call3_v4, main_call3_v5, main_call3_v6, main_call3_c_2, main_call3_v7, main_call3_c_3, main_call3_v8, main_call3_c_4, main_call3_v9, main_call3_c_5, main_call3_v10, main_call3_c_6, main_call3_v11, main_call3_c_7, main_call3_v12, main_call3_c_8, main_call3_c_9, main_call3_v13, main_call3_v14, main_call3_v15, main_call3_c_10, main_call3_v16, main_call3_v17, main_call3_c_11, main_call3_v18, main_call3_v19, main_call3_v20, main_call3_c_12, main_call3_v21, main_call3_c_13, main_call3_v22, main_call3_v23, main_call3_v24, main_call3_v25, main_call3_v26, main_v8]
theorem keep7 (r : Ref sig .tc) (hr : r ∉ wr7) : after hostOps0_7 W (Proc.devRef .tc r) = W (Proc.devRef .tc r) :=
  after_of_writes_sub hostOps0_7 W (forall_writes_sub_of_map (W := wr7) rfl) hr
/-- What stretch 8 writes. -/
def wr8 : List (Ref sig .tc) := [main_cst_5, main_v9, main_cst_6, main_v10]
theorem keep8 (r : Ref sig .tc) (hr : r ∉ wr8) : after hostOps0_8 W (Proc.devRef .tc r) = W (Proc.devRef .tc r) :=
  after_of_writes_sub hostOps0_8 W (forall_writes_sub_of_map (W := wr8) rfl) hr
/-- What stretch 9 writes. -/
def wr9 : List (Ref sig .tc) := [main_call4_v0, main_call4_c, main_call4_v1, main_call4_c_0, main_call4_v2, main_call4_c_1, main_call4_v3, main_call4_v4, main_call4_v5, main_call4_v6, main_call4_c_2, main_call4_v7, main_call4_c_3, main_call4_v8, main_call4_c_4, main_call4_v9, main_call4_c_5, main_call4_v10, main_call4_c_6, main_call4_v11, main_call4_c_7, main_call4_v12, main_call4_c_8, main_call4_v13, main_call4_v14, main_call4_v15, main_call4_v16, main_call4_v17, main_call4_v18, main_call4_c_9, main_call4_v19, main_call4_c_10, main_v11_1, main_v11_0]
theorem keep9 (r : Ref sig .tc) (hr : r ∉ wr9) : after hostOps0_9 W (Proc.devRef .tc r) = W (Proc.devRef .tc r) :=
  after_of_writes_sub hostOps0_9 W (forall_writes_sub_of_map (W := wr9) rfl) hr
/-- What stretch 10 writes. -/
def wr10 : List (Ref sig .tc) := [main_cst_7, main_v12, main_cst_8, main_v13, main_c_9]
theorem keep10 (r : Ref sig .tc) (hr : r ∉ wr10) : after hostOps0_10 W (Proc.devRef .tc r) = W (Proc.devRef .tc r) :=
  after_of_writes_sub hostOps0_10 W (forall_writes_sub_of_map (W := wr10) rfl) hr
/-- What stretch 11 writes. -/
def wr11 : List (Ref sig .tc) := [main_call5_v0, main_v14]
theorem keep11 (r : Ref sig .tc) (hr : r ∉ wr11) : after hostOps0_11 W (Proc.devRef .tc r) = W (Proc.devRef .tc r) :=
  after_of_writes_sub hostOps0_11 W (forall_writes_sub_of_map (W := wr11) rfl) hr
/-- What stretch 12 writes. -/
def wr12 : List (Ref sig .tc) := [main_cst_10]
theorem keep12 (r : Ref sig .tc) (hr : r ∉ wr12) : after hostOps0_12 W (Proc.devRef .tc r) = W (Proc.devRef .tc r) :=
  after_of_writes_sub hostOps0_12 W (forall_writes_sub_of_map (W := wr12) rfl) hr
/-- What stretch 13 writes. -/
def wr13 : List (Ref sig .tc) := [main_call6_v0, main_call6_c, main_call6_v1, main_call6_c_0, main_call6_v2, main_call6_c_1, main_call6_v3, main_call6_v4, main_call6_v5, main_call6_v6, main_call6_c_2, main_call6_v7, main_call6_c_3, main_call6_v8, main_call6_c_4, main_call6_v9, main_call6_c_5, main_call6_v10, main_call6_c_6, main_call6_v11, main_call6_c_7, main_call6_v12, main_call6_c_8, main_call6_c_9, main_call6_v13, main_call6_v14, main_call6_v15, main_call6_c_10, main_call6_v16, main_call6_v17, main_call6_c_11, main_call6_v18, main_call6_v19, main_call6_v20, main_call6_c_12, main_call6_v21, main_call6_c_13, main_call6_v22, main_call6_v23, main_call6_v24, main_call6_v25, main_call6_v26, main_v15]
theorem keep13 (r : Ref sig .tc) (hr : r ∉ wr13) : after hostOps0_13 W (Proc.devRef .tc r) = W (Proc.devRef .tc r) :=
  after_of_writes_sub hostOps0_13 W (forall_writes_sub_of_map (W := wr13) rfl) hr
/-- What stretch 14 writes. -/
def wr14 : List (Ref sig .tc) := [main_v16, main_cst_11]
theorem keep14 (r : Ref sig .tc) (hr : r ∉ wr14) : after hostOps0_14 W (Proc.devRef .tc r) = W (Proc.devRef .tc r) :=
  after_of_writes_sub hostOps0_14 W (forall_writes_sub_of_map (W := wr14) rfl) hr
/-- What stretch 15 writes. -/
def wr15 : List (Ref sig .tc) := [main_call7_v0, main_call7_c, main_call7_v1, main_call7_c_0, main_call7_v2, main_call7_c_1, main_call7_v3, main_call7_v4, main_call7_v5, main_call7_v6, main_call7_c_2, main_call7_v7, main_call7_c_3, main_call7_v8, main_call7_c_4, main_call7_v9, main_call7_c_5, main_call7_v10, main_call7_c_6, main_call7_v11, main_call7_c_7, main_call7_v12, main_call7_c_8, main_call7_c_9, main_call7_v13, main_call7_v14, main_call7_v15, main_call7_c_10, main_call7_v16, main_call7_v17, main_call7_c_11, main_call7_v18, main_call7_v19, main_call7_v20, main_call7_c_12, main_call7_v21, main_call7_c_13, main_call7_v22, main_call7_v23, main_call7_v24, main_call7_v25, main_call7_v26, main_v17]
theorem keep15 (r : Ref sig .tc) (hr : r ∉ wr15) : after hostOps0_15 W (Proc.devRef .tc r) = W (Proc.devRef .tc r) :=
  after_of_writes_sub hostOps0_15 W (forall_writes_sub_of_map (W := wr15) rfl) hr
/-- What stretch 16 writes. -/
def wr16 : List (Ref sig .tc) := [main_v18, main_v19, main_v20, main_v21, main_v22, main_v23, main_v24]
theorem keep16 (r : Ref sig .tc) (hr : r ∉ wr16) : after hostOps0_16 W (Proc.devRef .tc r) = W (Proc.devRef .tc r) :=
  after_of_writes_sub hostOps0_16 W (forall_writes_sub_of_map (W := wr16) rfl) hr

/-! ## The operations on `arg4` -/

theorem segA_x : after hostOps0 W (Proc.devRef .tc main_v1) = mulf (largest (W (Proc.devRef .tc main_arg4))) (constant S_ .f32 0x37924925#32) := by
  after_results <;> (try simp only [TRef.ofBuf_toBuf]) <;> rfl
theorem segA_exp : after hostOps0_1 W (Proc.devRef .tc main_v2_1) = exponent (W (Proc.devRef .tc main_v1)) := by
  after_results <;> (try simp only [TRef.ofBuf_toBuf]) <;> rfl
theorem segA_cmp : after hostOps0_2 W (Proc.devRef .tc main_v4) = cmpf .oeq (largest (W (Proc.devRef .tc main_arg4))) (constant S_ .f32 0x00000000#32) := by
  after_results <;> (try simp only [TRef.ofBuf_toBuf]) <;> rfl
theorem segA_zero : after hostOps0_2 W (Proc.devRef .tc main_c) = constantI S_ 32 0#32 := by
  after_results <;> (try simp only [TRef.ofBuf_toBuf]) <;> rfl
theorem segA_sel : after hostOps0_3 W (Proc.devRef .tc main_v5) = select (W (Proc.devRef .tc main_v4)) (W (Proc.devRef .tc main_c)) (W (Proc.devRef .tc main_v2_1)) := by
  after_results <;> (try simp only [TRef.ofBuf_toBuf]) <;> rfl
theorem segA_one : after hostOps0_4 W (Proc.devRef .tc main_cst_3) = constant (F := Bits) S_ .f32 0x3F800000#32 := by
  after_results <;> (try simp only [TRef.ofBuf_toBuf]) <;> rfl
theorem segA_scale : after hostOps0_5 W (Proc.devRef .tc main_v6) = timesPow (W (Proc.devRef .tc main_cst_3)) (W (Proc.devRef .tc main_v5)) := by
  after_results <;> (try simp only [TRef.ofBuf_toBuf]) <;> rfl
theorem segA_neg : after hostOps0_6 W (Proc.devRef .tc main_v7) = negi (s := S_) (w := 32) (W (Proc.devRef .tc main_v5)) := by
  after_results <;> (try simp only [TRef.ofBuf_toBuf]) <;> rfl
theorem segA_one' : after hostOps0_6 W (Proc.devRef .tc main_cst_4) = constant (F := Bits) S_ .f32 0x3F800000#32 := by
  after_results <;> (try simp only [TRef.ofBuf_toBuf]) <;> rfl
theorem segA_inv : after hostOps0_7 W (Proc.devRef .tc main_v8) = timesPow (W (Proc.devRef .tc main_cst_4)) (W (Proc.devRef .tc main_v7)) := by
  after_results <;> (try simp only [TRef.ofBuf_toBuf]) <;> rfl

/-! ## The operations on `arg5` -/

theorem segB_x : after hostOps0_8 W (Proc.devRef .tc main_v10) = mulf (largest (W (Proc.devRef .tc main_arg5))) (constant S_ .f32 0x37924925#32) := by
  after_results <;> (try simp only [TRef.ofBuf_toBuf]) <;> rfl
theorem segB_exp : after hostOps0_9 W (Proc.devRef .tc main_v11_1) = exponent (W (Proc.devRef .tc main_v10)) := by
  after_results <;> (try simp only [TRef.ofBuf_toBuf]) <;> rfl
theorem segB_cmp : after hostOps0_10 W (Proc.devRef .tc main_v13) = cmpf .oeq (largest (W (Proc.devRef .tc main_arg5))) (constant S_ .f32 0x00000000#32) := by
  after_results <;> (try simp only [TRef.ofBuf_toBuf]) <;> rfl
theorem segB_zero : after hostOps0_10 W (Proc.devRef .tc main_c_9) = constantI S_ 32 0#32 := by
  after_results <;> (try simp only [TRef.ofBuf_toBuf]) <;> rfl
theorem segB_sel : after hostOps0_11 W (Proc.devRef .tc main_v14) = select (W (Proc.devRef .tc main_v13)) (W (Proc.devRef .tc main_c_9)) (W (Proc.devRef .tc main_v11_1)) := by
  after_results <;> (try simp only [TRef.ofBuf_toBuf]) <;> rfl
theorem segB_one : after hostOps0_12 W (Proc.devRef .tc main_cst_10) = constant (F := Bits) S_ .f32 0x3F800000#32 := by
  after_results <;> (try simp only [TRef.ofBuf_toBuf]) <;> rfl
theorem segB_scale : after hostOps0_13 W (Proc.devRef .tc main_v15) = timesPow (W (Proc.devRef .tc main_cst_10)) (W (Proc.devRef .tc main_v14)) := by
  after_results <;> (try simp only [TRef.ofBuf_toBuf]) <;> rfl
theorem segB_neg : after hostOps0_14 W (Proc.devRef .tc main_v16) = negi (s := S_) (w := 32) (W (Proc.devRef .tc main_v14)) := by
  after_results <;> (try simp only [TRef.ofBuf_toBuf]) <;> rfl
theorem segB_one' : after hostOps0_14 W (Proc.devRef .tc main_cst_11) = constant (F := Bits) S_ .f32 0x3F800000#32 := by
  after_results <;> (try simp only [TRef.ofBuf_toBuf]) <;> rfl
theorem segB_inv : after hostOps0_15 W (Proc.devRef .tc main_v17) = timesPow (W (Proc.devRef .tc main_cst_11)) (W (Proc.devRef .tc main_v16)) := by
  after_results <;> (try simp only [TRef.ofBuf_toBuf]) <;> rfl

/-! ## The contents after each stretch -/

variable (m : (ℓ : Loc nD τ sig) → Buf (Elt Bits) ℓ) (c : Dev nD)

def U0 : Valuation τ sig (Elt Bits) := fun b => m (c, b)
def U1 : Valuation τ sig (Elt Bits) := after hostOps0 (U0 m c)
def U2 : Valuation τ sig (Elt Bits) := after hostOps0_1 (U1 m c)
def U3 : Valuation τ sig (Elt Bits) := after hostOps0_2 (U2 m c)
def U4 : Valuation τ sig (Elt Bits) := after hostOps0_3 (U3 m c)
def U5 : Valuation τ sig (Elt Bits) := after hostOps0_4 (U4 m c)
def U6 : Valuation τ sig (Elt Bits) := after hostOps0_5 (U5 m c)
def U7 : Valuation τ sig (Elt Bits) := after hostOps0_6 (U6 m c)
def U8 : Valuation τ sig (Elt Bits) := after hostOps0_7 (U7 m c)
def U9 : Valuation τ sig (Elt Bits) := after hostOps0_8 (U8 m c)
def U10 : Valuation τ sig (Elt Bits) := after hostOps0_9 (U9 m c)
def U11 : Valuation τ sig (Elt Bits) := after hostOps0_10 (U10 m c)
def U12 : Valuation τ sig (Elt Bits) := after hostOps0_11 (U11 m c)
def U13 : Valuation τ sig (Elt Bits) := after hostOps0_12 (U12 m c)
def U14 : Valuation τ sig (Elt Bits) := after hostOps0_13 (U13 m c)
def U15 : Valuation τ sig (Elt Bits) := after hostOps0_14 (U14 m c)
def U16 : Valuation τ sig (Elt Bits) := after hostOps0_15 (U15 m c)
def U17 : Valuation τ sig (Elt Bits) := after hostOps0_16 (U16 m c)
theorem V_eq (r : Ref sig .tc) : V m c r = U17 m c (Proc.devRef .tc r) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc r) = _
  simp only [List.flatten_cons, List.flatten_nil, List.append_nil, after_append]
  rfl

/-! ## The scale and the inverse of `arg4` -/
theorem atA_arg : (U0 m c) (Proc.devRef .tc main_arg4) = (m (c, (Proc.devRef .tc main_arg4))) := rfl
theorem atA_x : (U1 m c) (Proc.devRef .tc main_v1) = mulf (largest (m (c, (Proc.devRef .tc main_arg4)))) (constant S_ .f32 0x37924925#32) := by
  refine (segA_x _).trans ?_
  rw [atA_arg]
theorem atA_exp : (U2 m c) (Proc.devRef .tc main_v2_1) = exponent (mulf (largest (m (c, (Proc.devRef .tc main_arg4)))) (constant S_ .f32 0x37924925#32)) := by
  refine (segA_exp _).trans ?_
  rw [atA_x]
theorem atA_arg2 : (U2 m c) (Proc.devRef .tc main_arg4) = (m (c, (Proc.devRef .tc main_arg4))) := ((keep1 (U1 m c) main_arg4 (by decide)).trans (keep0 (U0 m c) main_arg4 (by decide))).trans (atA_arg m c)
theorem atA_cmp : (U3 m c) (Proc.devRef .tc main_v4) = cmpf .oeq (largest (m (c, (Proc.devRef .tc main_arg4)))) (constant S_ .f32 0x00000000#32) := by
  refine (segA_cmp _).trans ?_
  rw [atA_arg2]
theorem atA_sel : (U4 m c) (Proc.devRef .tc main_v5) = scaleExp (m (c, (Proc.devRef .tc main_arg4))) := by
  refine (segA_sel _).trans ?_
  have hz : (U3 m c) (Proc.devRef .tc main_c) = constantI S_ 32 0#32 := segA_zero _
  have hx : (U3 m c) (Proc.devRef .tc main_v2_1) = (U2 m c) (Proc.devRef .tc main_v2_1) := (keep2 (U2 m c) main_v2_1 (by decide))
  rw [atA_cmp, hz, hx, atA_exp]
  rfl
theorem atA_scale : (U6 m c) (Proc.devRef .tc main_v6) = scale (m (c, (Proc.devRef .tc main_arg4))) := by
  refine (segA_scale _).trans ?_
  have h1 : (U5 m c) (Proc.devRef .tc main_cst_3) = constant (F := Bits) S_ .f32 0x3F800000#32 := segA_one _
  have hx : (U5 m c) (Proc.devRef .tc main_v5) = (U4 m c) (Proc.devRef .tc main_v5) := (keep4 (U4 m c) main_v5 (by decide))
  rw [h1, hx, atA_sel]
  rfl
theorem atA_inv : (U8 m c) (Proc.devRef .tc main_v8) = inverse (m (c, (Proc.devRef .tc main_arg4))) := by
  refine (segA_inv _).trans ?_
  have h1 : (U7 m c) (Proc.devRef .tc main_cst_4) = constant (F := Bits) S_ .f32 0x3F800000#32 := segA_one' _
  have hn : (U7 m c) (Proc.devRef .tc main_v7) = negi (s := S_) (w := 32) ((U6 m c) (Proc.devRef .tc main_v5)) := segA_neg _
  have hx : (U6 m c) (Proc.devRef .tc main_v5) = (U4 m c) (Proc.devRef .tc main_v5) := ((keep5 (U5 m c) main_v5 (by decide)).trans (keep4 (U4 m c) main_v5 (by decide)))
  rw [h1, hn, hx, atA_sel]
  rfl

/-! ## The scale and the inverse of `arg5` -/
theorem atB_arg : (U8 m c) (Proc.devRef .tc main_arg5) = (m (c, (Proc.devRef .tc main_arg5))) := ((keep7 (U7 m c) main_arg5 (by decide)).trans ((keep6 (U6 m c) main_arg5 (by decide)).trans ((keep5 (U5 m c) main_arg5 (by decide)).trans ((keep4 (U4 m c) main_arg5 (by decide)).trans ((keep3 (U3 m c) main_arg5 (by decide)).trans ((keep2 (U2 m c) main_arg5 (by decide)).trans ((keep1 (U1 m c) main_arg5 (by decide)).trans (keep0 (U0 m c) main_arg5 (by decide)))))))))
theorem atB_x : (U9 m c) (Proc.devRef .tc main_v10) = mulf (largest (m (c, (Proc.devRef .tc main_arg5)))) (constant S_ .f32 0x37924925#32) := by
  refine (segB_x _).trans ?_
  rw [atB_arg]
theorem atB_exp : (U10 m c) (Proc.devRef .tc main_v11_1) = exponent (mulf (largest (m (c, (Proc.devRef .tc main_arg5)))) (constant S_ .f32 0x37924925#32)) := by
  refine (segB_exp _).trans ?_
  rw [atB_x]
theorem atB_arg2 : (U10 m c) (Proc.devRef .tc main_arg5) = (m (c, (Proc.devRef .tc main_arg5))) := ((keep9 (U9 m c) main_arg5 (by decide)).trans (keep8 (U8 m c) main_arg5 (by decide))).trans (atB_arg m c)
theorem atB_cmp : (U11 m c) (Proc.devRef .tc main_v13) = cmpf .oeq (largest (m (c, (Proc.devRef .tc main_arg5)))) (constant S_ .f32 0x00000000#32) := by
  refine (segB_cmp _).trans ?_
  rw [atB_arg2]
theorem atB_sel : (U12 m c) (Proc.devRef .tc main_v14) = scaleExp (m (c, (Proc.devRef .tc main_arg5))) := by
  refine (segB_sel _).trans ?_
  have hz : (U11 m c) (Proc.devRef .tc main_c_9) = constantI S_ 32 0#32 := segB_zero _
  have hx : (U11 m c) (Proc.devRef .tc main_v11_1) = (U10 m c) (Proc.devRef .tc main_v11_1) := (keep10 (U10 m c) main_v11_1 (by decide))
  rw [atB_cmp, hz, hx, atB_exp]
  rfl
theorem atB_scale : (U14 m c) (Proc.devRef .tc main_v15) = scale (m (c, (Proc.devRef .tc main_arg5))) := by
  refine (segB_scale _).trans ?_
  have h1 : (U13 m c) (Proc.devRef .tc main_cst_10) = constant (F := Bits) S_ .f32 0x3F800000#32 := segB_one _
  have hx : (U13 m c) (Proc.devRef .tc main_v14) = (U12 m c) (Proc.devRef .tc main_v14) := (keep12 (U12 m c) main_v14 (by decide))
  rw [h1, hx, atB_sel]
  rfl
theorem atB_inv : (U16 m c) (Proc.devRef .tc main_v17) = inverse (m (c, (Proc.devRef .tc main_arg5))) := by
  refine (segB_inv _).trans ?_
  have h1 : (U15 m c) (Proc.devRef .tc main_cst_11) = constant (F := Bits) S_ .f32 0x3F800000#32 := segB_one' _
  have hn : (U15 m c) (Proc.devRef .tc main_v16) = negi (s := S_) (w := 32) ((U14 m c) (Proc.devRef .tc main_v14)) := segB_neg _
  have hx : (U14 m c) (Proc.devRef .tc main_v14) = (U12 m c) (Proc.devRef .tc main_v14) := ((keep13 (U13 m c) main_v14 (by decide)).trans (keep12 (U12 m c) main_v14 (by decide)))
  rw [h1, hn, hx, atB_sel]
  rfl

/-! ## What the region finds -/

theorem V_scale : V m c main_v6 = scale (m (c, (Proc.devRef .tc main_arg4))) := (V_eq m c _).trans (((keep16 (U16 m c) main_v6 (by decide)).trans ((keep15 (U15 m c) main_v6 (by decide)).trans ((keep14 (U14 m c) main_v6 (by decide)).trans ((keep13 (U13 m c) main_v6 (by decide)).trans ((keep12 (U12 m c) main_v6 (by decide)).trans ((keep11 (U11 m c) main_v6 (by decide)).trans ((keep10 (U10 m c) main_v6 (by decide)).trans ((keep9 (U9 m c) main_v6 (by decide)).trans ((keep8 (U8 m c) main_v6 (by decide)).trans ((keep7 (U7 m c) main_v6 (by decide)).trans (keep6 (U6 m c) main_v6 (by decide)))))))))))).trans (atA_scale m c))
theorem V_scaleH : V m c main_v15 = scale (m (c, (Proc.devRef .tc main_arg5))) := (V_eq m c _).trans (((keep16 (U16 m c) main_v15 (by decide)).trans ((keep15 (U15 m c) main_v15 (by decide)).trans (keep14 (U14 m c) main_v15 (by decide)))).trans (atB_scale m c))
theorem seg_cat : after hostOps0_16 W (Proc.devRef .tc main_v22) = concatenate S3 0 [⟨S1, broadcastInDim S1 ![] bcast_S_S1 (W (Proc.devRef .tc main_v8))⟩,
      ⟨S1, broadcastInDim S1 ![] bcast_S_S1 (mulf (F := Bits) (φ := .f32) (W (Proc.devRef .tc main_v6)) (W (Proc.devRef .tc main_arg3)))⟩,
      ⟨S1, broadcastInDim S1 ![] bcast_S_S1 (W (Proc.devRef .tc main_v17))⟩] concatenates_S1_S1_S1_S3_d0 := by
  after_results <;> (try simp only [TRef.ofBuf_toBuf]) <;> rfl
theorem seg_dy : after hostOps0_16 W (Proc.devRef .tc main_v23) = shapeCast S15360x7168 (W (Proc.devRef .tc main_arg0)) shapeCasts_S24x640x7168_S15360x7168 := by
  after_results <;> (try simp only [TRef.ofBuf_toBuf]) <;> rfl
theorem V_dy : V m c main_v23 = shapeCast S15360x7168 (m (c, (Proc.devRef .tc main_arg0))) shapeCasts_S24x640x7168_S15360x7168 := by
  refine (V_eq m c _).trans ((seg_dy _).trans ?_)
  have h : U16 m c (Proc.devRef .tc main_arg0) = m (c, (Proc.devRef .tc main_arg0)) := ((keep15 (U15 m c) main_arg0 (by decide)).trans ((keep14 (U14 m c) main_arg0 (by decide)).trans ((keep13 (U13 m c) main_arg0 (by decide)).trans ((keep12 (U12 m c) main_arg0 (by decide)).trans ((keep11 (U11 m c) main_arg0 (by decide)).trans ((keep10 (U10 m c) main_arg0 (by decide)).trans ((keep9 (U9 m c) main_arg0 (by decide)).trans ((keep8 (U8 m c) main_arg0 (by decide)).trans ((keep7 (U7 m c) main_arg0 (by decide)).trans ((keep6 (U6 m c) main_arg0 (by decide)).trans ((keep5 (U5 m c) main_arg0 (by decide)).trans ((keep4 (U4 m c) main_arg0 (by decide)).trans ((keep3 (U3 m c) main_arg0 (by decide)).trans ((keep2 (U2 m c) main_arg0 (by decide)).trans ((keep1 (U1 m c) main_arg0 (by decide)).trans (keep0 (U0 m c) main_arg0 (by decide)))))))))))))))))
  rw [h]
/-- The first of the three scalars in front of the region is the inverse scale of dy. -/
theorem V_inv : V m c main_v22 (ix1 0) = inverse (m (c, (Proc.devRef .tc main_arg4))) ix0 := by
  rw [V_eq]
  refine (congrFun (seg_cat (U16 m c)) (ix1 0)).trans ?_
  have h : U16 m c (Proc.devRef .tc main_v8) = inverse (m (c, (Proc.devRef .tc main_arg4))) := ((keep15 (U15 m c) main_v8 (by decide)).trans ((keep14 (U14 m c) main_v8 (by decide)).trans ((keep13 (U13 m c) main_v8 (by decide)).trans ((keep12 (U12 m c) main_v8 (by decide)).trans ((keep11 (U11 m c) main_v8 (by decide)).trans ((keep10 (U10 m c) main_v8 (by decide)).trans ((keep9 (U9 m c) main_v8 (by decide)).trans (keep8 (U8 m c) main_v8 (by decide))))))))).trans (atA_inv m c)
  rw [h]
  pointwise

end Cert.Scales.Host
-- ==== Proof.ScalesReferenceHost.lean ====
/- The reference's operations in front of its call, from the histories. -/
module

public import proofs.«01_k».proof.Proof.Gen.ScalesReference.Frame
public import proofs.«01_k».proof.Proof.ScalesHost

@[expose] public section

set_option maxRecDepth 65536

noncomputable section

namespace Cert.ScalesReference.Host

open Cert.ScalesReference Cert.ScalesReference.Gen Idealize.ShloMosaic Idealize.ShloMosaic.TcCoe Idealize.SL.Sem Idealize.ShloMosaic.StableHlo

/-! ## The stretches of operations, each from any contents `W` -/

variable (W : Valuation τ sig (Elt Bits))

/-- What stretch 0 writes. -/
def wr0 : List (Ref sig .tc) := [main_cst, main_v0, main_cst_0, main_v1]
theorem keep0 (r : Ref sig .tc) (hr : r ∉ wr0) : after hostOps0 W (Proc.devRef .tc r) = W (Proc.devRef .tc r) :=
  after_of_writes_sub hostOps0 W (forall_writes_sub_of_map (W := wr0) rfl) hr
/-- What stretch 1 writes. -/
def wr1 : List (Ref sig .tc) := [main_call0_v0, main_call0_c, main_call0_v1, main_call0_c_0, main_call0_v2, main_call0_c_1, main_call0_v3, main_call0_v4, main_call0_v5, main_call0_v6, main_call0_c_2, main_call0_v7, main_call0_c_3, main_call0_v8, main_call0_c_4, main_call0_v9, main_call0_c_5, main_call0_v10, main_call0_c_6, main_call0_v11, main_call0_c_7, main_call0_v12, main_call0_c_8, main_call0_v13, main_call0_v14, main_call0_v15, main_call0_v16, main_call0_v17, main_call0_v18, main_call0_c_9, main_call0_v19, main_call0_c_10, main_v2_1, main_v2_0]
theorem keep1 (r : Ref sig .tc) (hr : r ∉ wr1) : after hostOps0_1 W (Proc.devRef .tc r) = W (Proc.devRef .tc r) :=
  after_of_writes_sub hostOps0_1 W (forall_writes_sub_of_map (W := wr1) rfl) hr
/-- What stretch 2 writes. -/
def wr2 : List (Ref sig .tc) := [main_cst_1, main_v3, main_c]
theorem keep2 (r : Ref sig .tc) (hr : r ∉ wr2) : after hostOps0_2 W (Proc.devRef .tc r) = W (Proc.devRef .tc r) :=
  after_of_writes_sub hostOps0_2 W (forall_writes_sub_of_map (W := wr2) rfl) hr
/-- What stretch 3 writes. -/
def wr3 : List (Ref sig .tc) := [main_call1_v0, main_v4]
theorem keep3 (r : Ref sig .tc) (hr : r ∉ wr3) : after hostOps0_3 W (Proc.devRef .tc r) = W (Proc.devRef .tc r) :=
  after_of_writes_sub hostOps0_3 W (forall_writes_sub_of_map (W := wr3) rfl) hr
/-- What stretch 4 writes. -/
def wr4 : List (Ref sig .tc) := [main_cst_2]
theorem keep4 (r : Ref sig .tc) (hr : r ∉ wr4) : after hostOps0_4 W (Proc.devRef .tc r) = W (Proc.devRef .tc r) :=
  after_of_writes_sub hostOps0_4 W (forall_writes_sub_of_map (W := wr4) rfl) hr
/-- What stretch 5 writes. -/
def wr5 : List (Ref sig .tc) := [main_call2_v0, main_call2_c, main_call2_v1, main_call2_c_0, main_call2_v2, main_call2_c_1, main_call2_v3, main_call2_v4, main_call2_v5, main_call2_v6, main_call2_c_2, main_call2_v7, main_call2_c_3, main_call2_v8, main_call2_c_4, main_call2_v9, main_call2_c_5, main_call2_v10, main_call2_c_6, main_call2_v11, main_call2_c_7, main_call2_v12, main_call2_c_8, main_call2_c_9, main_call2_v13, main_call2_v14, main_call2_v15, main_call2_c_10, main_call2_v16, main_call2_v17, main_call2_c_11, main_call2_v18, main_call2_v19, main_call2_v20, main_call2_c_12, main_call2_v21, main_call2_c_13, main_call2_v22, main_call2_v23, main_call2_v24, main_call2_v25, main_call2_v26, main_v5]
theorem keep5 (r : Ref sig .tc) (hr : r ∉ wr5) : after hostOps0_5 W (Proc.devRef .tc r) = W (Proc.devRef .tc r) :=
  after_of_writes_sub hostOps0_5 W (forall_writes_sub_of_map (W := wr5) rfl) hr
/-- What stretch 6 writes. -/
def wr6 : List (Ref sig .tc) := [main_v6, main_cst_3]
theorem keep6 (r : Ref sig .tc) (hr : r ∉ wr6) : after hostOps0_6 W (Proc.devRef .tc r) = W (Proc.devRef .tc r) :=
  after_of_writes_sub hostOps0_6 W (forall_writes_sub_of_map (W := wr6) rfl) hr
/-- What stretch 7 writes. -/
def wr7 : List (Ref sig .tc) := [main_call3_v0, main_call3_c, main_call3_v1, main_call3_c_0, main_call3_v2, main_call3_c_1, main_call3_v3, main_call3_v4, main_call3_v5, main_call3_v6, main_call3_c_2, main_call3_v7, main_call3_c_3, main_call3_v8, main_call3_c_4, main_call3_v9, main_call3_c_5, main_call3_v10, main_call3_c_6, main_call3_v11, main_call3_c_7, main_call3_v12, main_call3_c_8, main_call3_c_9, main_call3_v13, main_call3_v14, main_call3_v15, main_call3_c_10, main_call3_v16, main_call3_v17, main_call3_c_11, main_call3_v18, main_call3_v19, main_call3_v20, main_call3_c_12, main_call3_v21, main_call3_c_13, main_call3_v22, main_call3_v23, main_call3_v24, main_call3_v25, main_call3_v26, main_v7]
theorem keep7 (r : Ref sig .tc) (hr : r ∉ wr7) : after hostOps0_7 W (Proc.devRef .tc r) = W (Proc.devRef .tc r) :=
  after_of_writes_sub hostOps0_7 W (forall_writes_sub_of_map (W := wr7) rfl) hr
/-- What stretch 8 writes. -/
def wr8 : List (Ref sig .tc) := [main_cst_4, main_v8, main_cst_5, main_v9]
theorem keep8 (r : Ref sig .tc) (hr : r ∉ wr8) : after hostOps0_8 W (Proc.devRef .tc r) = W (Proc.devRef .tc r) :=
  after_of_writes_sub hostOps0_8 W (forall_writes_sub_of_map (W := wr8) rfl) hr
/-- What stretch 9 writes. -/
def wr9 : List (Ref sig .tc) := [main_call4_v0, main_call4_c, main_call4_v1, main_call4_c_0, main_call4_v2, main_call4_c_1, main_call4_v3, main_call4_v4, main_call4_v5, main_call4_v6, main_call4_c_2, main_call4_v7, main_call4_c_3, main_call4_v8, main_call4_c_4, main_call4_v9, main_call4_c_5, main_call4_v10, main_call4_c_6, main_call4_v11, main_call4_c_7, main_call4_v12, main_call4_c_8, main_call4_v13, main_call4_v14, main_call4_v15, main_call4_v16, main_call4_v17, main_call4_v18, main_call4_c_9, main_call4_v19, main_call4_c_10, main_v10_1, main_v10_0]
theorem keep9 (r : Ref sig .tc) (hr : r ∉ wr9) : after hostOps0_9 W (Proc.devRef .tc r) = W (Proc.devRef .tc r) :=
  after_of_writes_sub hostOps0_9 W (forall_writes_sub_of_map (W := wr9) rfl) hr
/-- What stretch 10 writes. -/
def wr10 : List (Ref sig .tc) := [main_cst_6, main_v11, main_c_7]
theorem keep10 (r : Ref sig .tc) (hr : r ∉ wr10) : after hostOps0_10 W (Proc.devRef .tc r) = W (Proc.devRef .tc r) :=
  after_of_writes_sub hostOps0_10 W (forall_writes_sub_of_map (W := wr10) rfl) hr
/-- What stretch 11 writes. -/
def wr11 : List (Ref sig .tc) := [main_call5_v0, main_v12]
theorem keep11 (r : Ref sig .tc) (hr : r ∉ wr11) : after hostOps0_11 W (Proc.devRef .tc r) = W (Proc.devRef .tc r) :=
  after_of_writes_sub hostOps0_11 W (forall_writes_sub_of_map (W := wr11) rfl) hr
/-- What stretch 12 writes. -/
def wr12 : List (Ref sig .tc) := [main_cst_8]
theorem keep12 (r : Ref sig .tc) (hr : r ∉ wr12) : after hostOps0_12 W (Proc.devRef .tc r) = W (Proc.devRef .tc r) :=
  after_of_writes_sub hostOps0_12 W (forall_writes_sub_of_map (W := wr12) rfl) hr
/-- What stretch 13 writes. -/
def wr13 : List (Ref sig .tc) := [main_call6_v0, main_call6_c, main_call6_v1, main_call6_c_0, main_call6_v2, main_call6_c_1, main_call6_v3, main_call6_v4, main_call6_v5, main_call6_v6, main_call6_c_2, main_call6_v7, main_call6_c_3, main_call6_v8, main_call6_c_4, main_call6_v9, main_call6_c_5, main_call6_v10, main_call6_c_6, main_call6_v11, main_call6_c_7, main_call6_v12, main_call6_c_8, main_call6_c_9, main_call6_v13, main_call6_v14, main_call6_v15, main_call6_c_10, main_call6_v16, main_call6_v17, main_call6_c_11, main_call6_v18, main_call6_v19, main_call6_v20, main_call6_c_12, main_call6_v21, main_call6_c_13, main_call6_v22, main_call6_v23, main_call6_v24, main_call6_v25, main_call6_v26, main_v13]
theorem keep13 (r : Ref sig .tc) (hr : r ∉ wr13) : after hostOps0_13 W (Proc.devRef .tc r) = W (Proc.devRef .tc r) :=
  after_of_writes_sub hostOps0_13 W (forall_writes_sub_of_map (W := wr13) rfl) hr
/-- What stretch 14 writes. -/
def wr14 : List (Ref sig .tc) := [main_v14, main_cst_9]
theorem keep14 (r : Ref sig .tc) (hr : r ∉ wr14) : after hostOps0_14 W (Proc.devRef .tc r) = W (Proc.devRef .tc r) :=
  after_of_writes_sub hostOps0_14 W (forall_writes_sub_of_map (W := wr14) rfl) hr
/-- What stretch 15 writes. -/
def wr15 : List (Ref sig .tc) := [main_call7_v0, main_call7_c, main_call7_v1, main_call7_c_0, main_call7_v2, main_call7_c_1, main_call7_v3, main_call7_v4, main_call7_v5, main_call7_v6, main_call7_c_2, main_call7_v7, main_call7_c_3, main_call7_v8, main_call7_c_4, main_call7_v9, main_call7_c_5, main_call7_v10, main_call7_c_6, main_call7_v11, main_call7_c_7, main_call7_v12, main_call7_c_8, main_call7_c_9, main_call7_v13, main_call7_v14, main_call7_v15, main_call7_c_10, main_call7_v16, main_call7_v17, main_call7_c_11, main_call7_v18, main_call7_v19, main_call7_v20, main_call7_c_12, main_call7_v21, main_call7_c_13, main_call7_v22, main_call7_v23, main_call7_v24, main_call7_v25, main_call7_v26, main_v15]
theorem keep15 (r : Ref sig .tc) (hr : r ∉ wr15) : after hostOps0_15 W (Proc.devRef .tc r) = W (Proc.devRef .tc r) :=
  after_of_writes_sub hostOps0_15 W (forall_writes_sub_of_map (W := wr15) rfl) hr
/-- What stretch 16 writes. -/
def wr16 : List (Ref sig .tc) := [main_v16, main_v17]
theorem keep16 (r : Ref sig .tc) (hr : r ∉ wr16) : after hostOps0_16 W (Proc.devRef .tc r) = W (Proc.devRef .tc r) :=
  after_of_writes_sub hostOps0_16 W (forall_writes_sub_of_map (W := wr16) rfl) hr

/-! ## The operations on `arg4` -/

theorem segA_x : after hostOps0 W (Proc.devRef .tc main_v1) = mulf (Cert.Scales.Host.largest (W (Proc.devRef .tc main_arg4))) (constant S_ .f32 0x37924925#32) := by
  after_results <;> (try simp only [TRef.ofBuf_toBuf]) <;> rfl
theorem segA_exp : after hostOps0_1 W (Proc.devRef .tc main_v2_1) = Cert.Scales.Host.exponent (W (Proc.devRef .tc main_v1)) := by
  after_results <;> (try simp only [TRef.ofBuf_toBuf]) <;> rfl
theorem segA_max : after hostOps0 W (Proc.devRef .tc main_v0) = Cert.Scales.Host.largest (W (Proc.devRef .tc main_arg4)) := by
  after_results <;> (try simp only [TRef.ofBuf_toBuf]) <;> rfl
theorem segA_cmp : after hostOps0_2 W (Proc.devRef .tc main_v3) = cmpf (F := Bits) (φ := .f32) .oeq (W (Proc.devRef .tc main_v0)) (constant S_ .f32 0x00000000#32) := by
  after_results <;> (try simp only [TRef.ofBuf_toBuf]) <;> rfl
theorem segA_zero : after hostOps0_2 W (Proc.devRef .tc main_c) = constantI S_ 32 0#32 := by
  after_results <;> (try simp only [TRef.ofBuf_toBuf]) <;> rfl
theorem segA_sel : after hostOps0_3 W (Proc.devRef .tc main_v4) = select (W (Proc.devRef .tc main_v3)) (W (Proc.devRef .tc main_c)) (W (Proc.devRef .tc main_v2_1)) := by
  after_results <;> (try simp only [TRef.ofBuf_toBuf]) <;> rfl
theorem segA_one : after hostOps0_4 W (Proc.devRef .tc main_cst_2) = constant (F := Bits) S_ .f32 0x3F800000#32 := by
  after_results <;> (try simp only [TRef.ofBuf_toBuf]) <;> rfl
theorem segA_scale : after hostOps0_5 W (Proc.devRef .tc main_v5) = Cert.Scales.Host.timesPow (W (Proc.devRef .tc main_cst_2)) (W (Proc.devRef .tc main_v4)) := by
  after_results <;> (try simp only [TRef.ofBuf_toBuf]) <;> rfl
theorem segA_neg : after hostOps0_6 W (Proc.devRef .tc main_v6) = negi (s := S_) (w := 32) (W (Proc.devRef .tc main_v4)) := by
  after_results <;> (try simp only [TRef.ofBuf_toBuf]) <;> rfl
theorem segA_one' : after hostOps0_6 W (Proc.devRef .tc main_cst_3) = constant (F := Bits) S_ .f32 0x3F800000#32 := by
  after_results <;> (try simp only [TRef.ofBuf_toBuf]) <;> rfl
theorem segA_inv : after hostOps0_7 W (Proc.devRef .tc main_v7) = Cert.Scales.Host.timesPow (W (Proc.devRef .tc main_cst_3)) (W (Proc.devRef .tc main_v6)) := by
  after_results <;> (try simp only [TRef.ofBuf_toBuf]) <;> rfl

/-! ## The operations on `arg5` -/

theorem segB_x : after hostOps0_8 W (Proc.devRef .tc main_v9) = mulf (Cert.Scales.Host.largest (W (Proc.devRef .tc main_arg5))) (constant S_ .f32 0x37924925#32) := by
  after_results <;> (try simp only [TRef.ofBuf_toBuf]) <;> rfl
theorem segB_exp : after hostOps0_9 W (Proc.devRef .tc main_v10_1) = Cert.Scales.Host.exponent (W (Proc.devRef .tc main_v9)) := by
  after_results <;> (try simp only [TRef.ofBuf_toBuf]) <;> rfl
theorem segB_max : after hostOps0_8 W (Proc.devRef .tc main_v8) = Cert.Scales.Host.largest (W (Proc.devRef .tc main_arg5)) := by
  after_results <;> (try simp only [TRef.ofBuf_toBuf]) <;> rfl
theorem segB_cmp : after hostOps0_10 W (Proc.devRef .tc main_v11) = cmpf (F := Bits) (φ := .f32) .oeq (W (Proc.devRef .tc main_v8)) (constant S_ .f32 0x00000000#32) := by
  after_results <;> (try simp only [TRef.ofBuf_toBuf]) <;> rfl
theorem segB_zero : after hostOps0_10 W (Proc.devRef .tc main_c_7) = constantI S_ 32 0#32 := by
  after_results <;> (try simp only [TRef.ofBuf_toBuf]) <;> rfl
theorem segB_sel : after hostOps0_11 W (Proc.devRef .tc main_v12) = select (W (Proc.devRef .tc main_v11)) (W (Proc.devRef .tc main_c_7)) (W (Proc.devRef .tc main_v10_1)) := by
  after_results <;> (try simp only [TRef.ofBuf_toBuf]) <;> rfl
theorem segB_one : after hostOps0_12 W (Proc.devRef .tc main_cst_8) = constant (F := Bits) S_ .f32 0x3F800000#32 := by
  after_results <;> (try simp only [TRef.ofBuf_toBuf]) <;> rfl
theorem segB_scale : after hostOps0_13 W (Proc.devRef .tc main_v13) = Cert.Scales.Host.timesPow (W (Proc.devRef .tc main_cst_8)) (W (Proc.devRef .tc main_v12)) := by
  after_results <;> (try simp only [TRef.ofBuf_toBuf]) <;> rfl
theorem segB_neg : after hostOps0_14 W (Proc.devRef .tc main_v14) = negi (s := S_) (w := 32) (W (Proc.devRef .tc main_v12)) := by
  after_results <;> (try simp only [TRef.ofBuf_toBuf]) <;> rfl
theorem segB_one' : after hostOps0_14 W (Proc.devRef .tc main_cst_9) = constant (F := Bits) S_ .f32 0x3F800000#32 := by
  after_results <;> (try simp only [TRef.ofBuf_toBuf]) <;> rfl
theorem segB_inv : after hostOps0_15 W (Proc.devRef .tc main_v15) = Cert.Scales.Host.timesPow (W (Proc.devRef .tc main_cst_9)) (W (Proc.devRef .tc main_v14)) := by
  after_results <;> (try simp only [TRef.ofBuf_toBuf]) <;> rfl

/-! ## The contents after each stretch -/

variable (m : (ℓ : Loc nD τ sig) → Buf (Elt Bits) ℓ) (c : Dev nD)

def U0 : Valuation τ sig (Elt Bits) := fun b => m (c, b)
def U1 : Valuation τ sig (Elt Bits) := after hostOps0 (U0 m c)
def U2 : Valuation τ sig (Elt Bits) := after hostOps0_1 (U1 m c)
def U3 : Valuation τ sig (Elt Bits) := after hostOps0_2 (U2 m c)
def U4 : Valuation τ sig (Elt Bits) := after hostOps0_3 (U3 m c)
def U5 : Valuation τ sig (Elt Bits) := after hostOps0_4 (U4 m c)
def U6 : Valuation τ sig (Elt Bits) := after hostOps0_5 (U5 m c)
def U7 : Valuation τ sig (Elt Bits) := after hostOps0_6 (U6 m c)
def U8 : Valuation τ sig (Elt Bits) := after hostOps0_7 (U7 m c)
def U9 : Valuation τ sig (Elt Bits) := after hostOps0_8 (U8 m c)
def U10 : Valuation τ sig (Elt Bits) := after hostOps0_9 (U9 m c)
def U11 : Valuation τ sig (Elt Bits) := after hostOps0_10 (U10 m c)
def U12 : Valuation τ sig (Elt Bits) := after hostOps0_11 (U11 m c)
def U13 : Valuation τ sig (Elt Bits) := after hostOps0_12 (U12 m c)
def U14 : Valuation τ sig (Elt Bits) := after hostOps0_13 (U13 m c)
def U15 : Valuation τ sig (Elt Bits) := after hostOps0_14 (U14 m c)
def U16 : Valuation τ sig (Elt Bits) := after hostOps0_15 (U15 m c)
def U17 : Valuation τ sig (Elt Bits) := after hostOps0_16 (U16 m c)
theorem V_eq (r : Ref sig .tc) : V m c r = U17 m c (Proc.devRef .tc r) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc r) = _
  simp only [List.flatten_cons, List.flatten_nil, List.append_nil, after_append]
  rfl

/-! ## The scale and the inverse of `arg4` -/
theorem atA_arg : (U0 m c) (Proc.devRef .tc main_arg4) = (m (c, (Proc.devRef .tc main_arg4))) := rfl
theorem atA_x : (U1 m c) (Proc.devRef .tc main_v1) = mulf (Cert.Scales.Host.largest (m (c, (Proc.devRef .tc main_arg4)))) (constant S_ .f32 0x37924925#32) := by
  refine (segA_x _).trans ?_
  rw [atA_arg]
theorem atA_exp : (U2 m c) (Proc.devRef .tc main_v2_1) = Cert.Scales.Host.exponent (mulf (Cert.Scales.Host.largest (m (c, (Proc.devRef .tc main_arg4)))) (constant S_ .f32 0x37924925#32)) := by
  refine (segA_exp _).trans ?_
  rw [atA_x]
theorem atA_max : (U1 m c) (Proc.devRef .tc main_v0) = Cert.Scales.Host.largest (m (c, (Proc.devRef .tc main_arg4))) := by
  refine (segA_max _).trans ?_
  rw [atA_arg]
theorem atA_max2 : (U2 m c) (Proc.devRef .tc main_v0) = Cert.Scales.Host.largest (m (c, (Proc.devRef .tc main_arg4))) := (keep1 (U1 m c) main_v0 (by decide)).trans (atA_max m c)
theorem atA_cmp : (U3 m c) (Proc.devRef .tc main_v3) = cmpf .oeq (Cert.Scales.Host.largest (m (c, (Proc.devRef .tc main_arg4)))) (constant S_ .f32 0x00000000#32) := by
  refine (segA_cmp _).trans ?_
  rw [atA_max2]
theorem atA_sel : (U4 m c) (Proc.devRef .tc main_v4) = Cert.Scales.Host.scaleExp (m (c, (Proc.devRef .tc main_arg4))) := by
  refine (segA_sel _).trans ?_
  have hz : (U3 m c) (Proc.devRef .tc main_c) = constantI S_ 32 0#32 := segA_zero _
  have hx : (U3 m c) (Proc.devRef .tc main_v2_1) = (U2 m c) (Proc.devRef .tc main_v2_1) := (keep2 (U2 m c) main_v2_1 (by decide))
  rw [atA_cmp, hz, hx, atA_exp]
  rfl
theorem atA_scale : (U6 m c) (Proc.devRef .tc main_v5) = Cert.Scales.Host.scale (m (c, (Proc.devRef .tc main_arg4))) := by
  refine (segA_scale _).trans ?_
  have h1 : (U5 m c) (Proc.devRef .tc main_cst_2) = constant (F := Bits) S_ .f32 0x3F800000#32 := segA_one _
  have hx : (U5 m c) (Proc.devRef .tc main_v4) = (U4 m c) (Proc.devRef .tc main_v4) := (keep4 (U4 m c) main_v4 (by decide))
  rw [h1, hx, atA_sel]
  rfl
theorem atA_inv : (U8 m c) (Proc.devRef .tc main_v7) = Cert.Scales.Host.inverse (m (c, (Proc.devRef .tc main_arg4))) := by
  refine (segA_inv _).trans ?_
  have h1 : (U7 m c) (Proc.devRef .tc main_cst_3) = constant (F := Bits) S_ .f32 0x3F800000#32 := segA_one' _
  have hn : (U7 m c) (Proc.devRef .tc main_v6) = negi (s := S_) (w := 32) ((U6 m c) (Proc.devRef .tc main_v4)) := segA_neg _
  have hx : (U6 m c) (Proc.devRef .tc main_v4) = (U4 m c) (Proc.devRef .tc main_v4) := ((keep5 (U5 m c) main_v4 (by decide)).trans (keep4 (U4 m c) main_v4 (by decide)))
  rw [h1, hn, hx, atA_sel]
  rfl

/-! ## The scale and the inverse of `arg5` -/
theorem atB_arg : (U8 m c) (Proc.devRef .tc main_arg5) = (m (c, (Proc.devRef .tc main_arg5))) := ((keep7 (U7 m c) main_arg5 (by decide)).trans ((keep6 (U6 m c) main_arg5 (by decide)).trans ((keep5 (U5 m c) main_arg5 (by decide)).trans ((keep4 (U4 m c) main_arg5 (by decide)).trans ((keep3 (U3 m c) main_arg5 (by decide)).trans ((keep2 (U2 m c) main_arg5 (by decide)).trans ((keep1 (U1 m c) main_arg5 (by decide)).trans (keep0 (U0 m c) main_arg5 (by decide)))))))))
theorem atB_x : (U9 m c) (Proc.devRef .tc main_v9) = mulf (Cert.Scales.Host.largest (m (c, (Proc.devRef .tc main_arg5)))) (constant S_ .f32 0x37924925#32) := by
  refine (segB_x _).trans ?_
  rw [atB_arg]
theorem atB_exp : (U10 m c) (Proc.devRef .tc main_v10_1) = Cert.Scales.Host.exponent (mulf (Cert.Scales.Host.largest (m (c, (Proc.devRef .tc main_arg5)))) (constant S_ .f32 0x37924925#32)) := by
  refine (segB_exp _).trans ?_
  rw [atB_x]
theorem atB_max : (U9 m c) (Proc.devRef .tc main_v8) = Cert.Scales.Host.largest (m (c, (Proc.devRef .tc main_arg5))) := by
  refine (segB_max _).trans ?_
  rw [atB_arg]
theorem atB_max2 : (U10 m c) (Proc.devRef .tc main_v8) = Cert.Scales.Host.largest (m (c, (Proc.devRef .tc main_arg5))) := (keep9 (U9 m c) main_v8 (by decide)).trans (atB_max m c)
theorem atB_cmp : (U11 m c) (Proc.devRef .tc main_v11) = cmpf .oeq (Cert.Scales.Host.largest (m (c, (Proc.devRef .tc main_arg5)))) (constant S_ .f32 0x00000000#32) := by
  refine (segB_cmp _).trans ?_
  rw [atB_max2]
theorem atB_sel : (U12 m c) (Proc.devRef .tc main_v12) = Cert.Scales.Host.scaleExp (m (c, (Proc.devRef .tc main_arg5))) := by
  refine (segB_sel _).trans ?_
  have hz : (U11 m c) (Proc.devRef .tc main_c_7) = constantI S_ 32 0#32 := segB_zero _
  have hx : (U11 m c) (Proc.devRef .tc main_v10_1) = (U10 m c) (Proc.devRef .tc main_v10_1) := (keep10 (U10 m c) main_v10_1 (by decide))
  rw [atB_cmp, hz, hx, atB_exp]
  rfl
theorem atB_scale : (U14 m c) (Proc.devRef .tc main_v13) = Cert.Scales.Host.scale (m (c, (Proc.devRef .tc main_arg5))) := by
  refine (segB_scale _).trans ?_
  have h1 : (U13 m c) (Proc.devRef .tc main_cst_8) = constant (F := Bits) S_ .f32 0x3F800000#32 := segB_one _
  have hx : (U13 m c) (Proc.devRef .tc main_v12) = (U12 m c) (Proc.devRef .tc main_v12) := (keep12 (U12 m c) main_v12 (by decide))
  rw [h1, hx, atB_sel]
  rfl
theorem atB_inv : (U16 m c) (Proc.devRef .tc main_v15) = Cert.Scales.Host.inverse (m (c, (Proc.devRef .tc main_arg5))) := by
  refine (segB_inv _).trans ?_
  have h1 : (U15 m c) (Proc.devRef .tc main_cst_9) = constant (F := Bits) S_ .f32 0x3F800000#32 := segB_one' _
  have hn : (U15 m c) (Proc.devRef .tc main_v14) = negi (s := S_) (w := 32) ((U14 m c) (Proc.devRef .tc main_v12)) := segB_neg _
  have hx : (U14 m c) (Proc.devRef .tc main_v12) = (U12 m c) (Proc.devRef .tc main_v12) := ((keep13 (U13 m c) main_v12 (by decide)).trans (keep12 (U12 m c) main_v12 (by decide)))
  rw [h1, hn, hx, atB_sel]
  rfl

/-! ## What the region finds -/

theorem V_scale : V m c main_v5 = Cert.Scales.Host.scale (m (c, (Proc.devRef .tc main_arg4))) := (V_eq m c _).trans (((keep16 (U16 m c) main_v5 (by decide)).trans ((keep15 (U15 m c) main_v5 (by decide)).trans ((keep14 (U14 m c) main_v5 (by decide)).trans ((keep13 (U13 m c) main_v5 (by decide)).trans ((keep12 (U12 m c) main_v5 (by decide)).trans ((keep11 (U11 m c) main_v5 (by decide)).trans ((keep10 (U10 m c) main_v5 (by decide)).trans ((keep9 (U9 m c) main_v5 (by decide)).trans ((keep8 (U8 m c) main_v5 (by decide)).trans ((keep7 (U7 m c) main_v5 (by decide)).trans (keep6 (U6 m c) main_v5 (by decide)))))))))))).trans (atA_scale m c))
theorem V_scaleH : V m c main_v13 = Cert.Scales.Host.scale (m (c, (Proc.devRef .tc main_arg5))) := (V_eq m c _).trans (((keep16 (U16 m c) main_v13 (by decide)).trans ((keep15 (U15 m c) main_v13 (by decide)).trans (keep14 (U14 m c) main_v13 (by decide)))).trans (atB_scale m c))
theorem seg_inv : after hostOps0_16 W (Proc.devRef .tc main_v17) = shapeCast S1x1 (W (Proc.devRef .tc main_v7)) shapeCasts_S_S1x1 := by
  after_results <;> (try simp only [TRef.ofBuf_toBuf]) <;> rfl
theorem seg_dy : after hostOps0_16 W (Proc.devRef .tc main_v16) = shapeCast S15360x7168 (W (Proc.devRef .tc main_arg0)) shapeCasts_S24x640x7168_S15360x7168 := by
  after_results <;> (try simp only [TRef.ofBuf_toBuf]) <;> rfl
theorem V_dy : V m c main_v16 = shapeCast S15360x7168 (m (c, (Proc.devRef .tc main_arg0))) shapeCasts_S24x640x7168_S15360x7168 := by
  refine (V_eq m c _).trans ((seg_dy _).trans ?_)
  have h : U16 m c (Proc.devRef .tc main_arg0) = m (c, (Proc.devRef .tc main_arg0)) := ((keep15 (U15 m c) main_arg0 (by decide)).trans ((keep14 (U14 m c) main_arg0 (by decide)).trans ((keep13 (U13 m c) main_arg0 (by decide)).trans ((keep12 (U12 m c) main_arg0 (by decide)).trans ((keep11 (U11 m c) main_arg0 (by decide)).trans ((keep10 (U10 m c) main_arg0 (by decide)).trans ((keep9 (U9 m c) main_arg0 (by decide)).trans ((keep8 (U8 m c) main_arg0 (by decide)).trans ((keep7 (U7 m c) main_arg0 (by decide)).trans ((keep6 (U6 m c) main_arg0 (by decide)).trans ((keep5 (U5 m c) main_arg0 (by decide)).trans ((keep4 (U4 m c) main_arg0 (by decide)).trans ((keep3 (U3 m c) main_arg0 (by decide)).trans ((keep2 (U2 m c) main_arg0 (by decide)).trans ((keep1 (U1 m c) main_arg0 (by decide)).trans (keep0 (U0 m c) main_arg0 (by decide)))))))))))))))))
  rw [h]
/-- The one scalar in front of the region is the inverse scale of dy. -/
theorem V_inv : V m c main_v17 (ix2 0 0) = Cert.Scales.Host.inverse (m (c, (Proc.devRef .tc main_arg4))) ix0 := by
  rw [V_eq]
  refine (congrFun (seg_inv (U16 m c)) (ix2 0 0)).trans ?_
  have h : U16 m c (Proc.devRef .tc main_v7) = Cert.Scales.Host.inverse (m (c, (Proc.devRef .tc main_arg4))) := ((keep15 (U15 m c) main_v7 (by decide)).trans ((keep14 (U14 m c) main_v7 (by decide)).trans ((keep13 (U13 m c) main_v7 (by decide)).trans ((keep12 (U12 m c) main_v7 (by decide)).trans ((keep11 (U11 m c) main_v7 (by decide)).trans ((keep10 (U10 m c) main_v7 (by decide)).trans ((keep9 (U9 m c) main_v7 (by decide)).trans (keep8 (U8 m c) main_v7 (by decide))))))))).trans (atA_inv m c)
  rw [h]
  pointwise

end Cert.ScalesReference.Host
-- ==== Proof.ScalesCodes.lean ====
/- The dy codes that `dgrad1` ends with, as words: each element widened, times the first of the three scalars, clipped,
   narrowed. -/
module

public import proofs.«01_k».proof.Proof.Gen.Scales.Value
public import proofs.«01_k».proof.Proof.ScalesHost
public import Idealize.ShloMosaic.Lib.Pipeline.ValueKit
public import Idealize.ShloMosaic.Lib.Pointwise
public import Idealize.ShloMosaic.Lib.Tactic

@[expose] public section

set_option maxRecDepth 16384

noncomputable section

namespace Cert.Scales.Value

open Cert.Scales Cert.Scales.Gen Idealize.ShloMosaic Idealize.ShloMosaic.TcCoe Idealize.SL.Sem
open Idealize.ShloMosaic.Pipeline (Dat)

/-- One code: a bfloat16 element under an inverse scale. -/
def code (x : Bits .bf16) (inv : Bits .f32) : Bits .fp8e5m2 :=
  FloatOps.truncf .fp8e5m2 bitsLt_fp8e5m2_f32 (FloatOps.minimumf (Scalar.ofBits .f32 0x47600000#32)
    (FloatOps.maximumf (Scalar.ofBits .f32 0xC7600000#32) (FloatOps.mulf (FloatOps.extf .f32 bitsLt_bf16_f32 x) inv)))
/-- The codes of an array. -/
def codes {s : Shape} (x : FVec Bits s .bf16) (inv : Bits .f32) : FVec Bits s .fp8e5m2 := fun i => code (x i) inv

/-- Zero offsets, however spelt. -/
theorem hz0 : (![0, 0] : Fin 2 → Nat) = fun _ => 0 := funext fun a => by fin_cases a <;> rfl

/-- The first of the three scalars, as the scalar load reads it. -/
def first (x0 : Vec Bits S3 .f32) : Elt Bits .f32 := View.ld x0 (Rect.unit (s := S3) ![0] S1.size inb_S3_S1_0) (Shape.Idx.first (s := ⟨1, S1.size⟩) (by rw [show (⟨1, S1.size⟩ : Shape).numel = 1 from numel1_S1]; exact Nat.one_pos))
theorem first_eq (x0 : Vec Bits S3 .f32) : first x0 = x0 (ix1 0) :=
  congrArg x0 (funext fun a => Fin.ext (by match a with | ⟨0, _⟩ => rfl))

/-- The codes of one block, as the body computes them. -/
def codesBlock (x0 : Vec Bits S3 .f32) (x1 : Vec Bits S512x7168 .bf16) : Vec Bits S512x7168 .fp8e5m2 :=
  k0_pay12 (k0_pay5 x1) (first x0)
theorem codesBlock_eq (x0 : Vec Bits S3 .f32) (x1 : Vec Bits S512x7168 .bf16) : codesBlock x0 x1 = codes x1 (x0 (ix1 0)) := by
  funext i
  unfold codesBlock
  rw [first_eq]
  generalize x0 (ix1 0) = inv
  have h5 : (k0_pay5 x1) i = FloatOps.extf .f32 bitsLt_bf16_f32 (x1 i) :=
    congrArg (FloatOps.extf .f32 bitsLt_bf16_f32) (shapeCast_apply _ _ i i rfl)
  show FloatOps.truncf .fp8e5m2 bitsLt_fp8e5m2_f32 (FloatOps.minimumf (Scalar.ofBits .f32 0x47600000#32)
    (FloatOps.maximumf (Scalar.ofBits .f32 0xC7600000#32) (FloatOps.mulf (k0_pay5 x1 i) inv))) = _
  rw [h5]
  rfl

section
variable (c : Dev nD) (i : grid0.Coords) (arg1 : Memref sig .tc .smem S3 .f32) (harg1 : arg1.IsWhole) (arg2 : Memref sig .tc .vmem S512x7168 .bf16) (harg2 : arg2.IsWhole) (arg3 : Memref sig .tc .vmem S512x4096 .bf16) (harg3 : arg3.IsWhole) (arg4 : Memref sig .tc .vmem S2048x7168 .fp8e4m3) (harg4 : arg4.IsWhole) (arg5 : Memref sig .tc .vmem S512x7168 .fp8e5m2) (harg5 : arg5.IsWhole) (arg6 : Memref sig .tc .vmem S512x4096 .fp8e5m2) (harg6 : arg6.IsWhole) (arg7 : Memref sig .tc .vmem S8x128 .f32) (harg7 : arg7.IsWhole) (arg8 : Memref sig .tc .vmem S8x128 .f32) (harg8 : arg8.IsWhole)
    (x0 : Vec Bits S3 .f32) (x1 : Vec Bits S512x7168 .bf16) (x2 : Vec Bits S512x4096 .bf16) (x3 : Vec Bits S2048x7168 .fp8e4m3) (xo6 : Vec Bits S8x128 .f32) (xo7 : Vec Bits S8x128 .f32)

/-- The codes' block at the first point. -/
theorem out0_A4 (hc0 : cond0_0 i) (hc1 : ¬cond0_1 i) :
    out0_A_4 c i arg1 harg1 arg2 harg2 arg3 harg3 arg4 harg4 arg5 harg5 arg6 harg6 arg7 harg7 arg8 harg8 hc0 hc1 x0 x1 x2 x3 = codesBlock x0 x1 := by
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2 x3)]
  unfold kernelRun0_A
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl

/-- The codes' block at a later point. -/
theorem out0_B4 (hc0 : ¬cond0_0 i) (hc1 : cond0_1 i) :
    out0_B_4 c i arg1 harg1 arg2 harg2 arg3 harg3 arg4 harg4 arg5 harg5 arg6 harg6 arg7 harg7 arg8 harg8 hc0 hc1 x0 x1 x2 x3 xo6 xo7 = codesBlock x0 x1 := by
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 x3 xo6 xo7)]
  unfold kernelRun0_B
  dsimp only
  rw [View.canon_unit_zero hz0]
  sl_unfold_words
  simp only [View.readAt_eq_ld, harg1.read_unread, harg2.read_unread, harg3.read_unread, harg4.read_unread, harg7.read_unread, harg8.read_unread,
    View.ld_unit_zero (S := S512x7168) hz0, View.ld_unit_zero (S := S2048x7168) hz0, View.ld_unit_zero (S := S8x128) hz0]
  rfl
end

variable (m : (ℓ : Loc nD τ sig) → Buf (Elt Bits) ℓ) (ρ : Dev nD → PrngReg)

theorem outs_codes (c : Dev nD) (t : Fin cfg0.N) : (outsAt0 m c t.val t.isLt).1 = codesBlock (iblk m c 0 t) (iblk m c 1 t) := by
  have hN : t.val < 30 := t.isLt
  by_cases h : 1 ≤ t.val
  · rw [outsAt0_B m c t (by omega) h]; dsimp only; exact out0_B4 ..
  · rw [outsAt0_A m c t (by omega) h]; dsimp only; exact out0_A4 ..

/-- The 512 rows of block `t`. -/
def rows {α : Type} (x : S15360x7168.Idx → α) (t : Fin 30) : S512x7168.Idx → α :=
  fun i => x (ix2 ⟨t.val * 512 + (i 0).val, by have : (i 0).val < 512 := (i 0).isLt; omega⟩ (i 1))
theorem codes_rows (x : FVec Bits S15360x7168 .bf16) (inv : Bits .f32) (t : Fin 30) :
    codes (s := S512x7168) (rows x t) inv = rows (codes x inv) t := rfl

/-- The grid point as a block of rows. -/
abbrev p0 (t : Fin cfg0.N) : Fin 30 := t.cast N_0
theorem i0_0 : ∀ t : Fin grid0.N, win0_0.index t = ![0] := by decide +kernel
theorem i0_1 : ∀ t : Fin grid0.N, win0_1.index t = ![t.val, 0] := by decide +kernel
theorem i0_4 : ∀ t : Fin grid0.N, win0_4.index t = ![t.val, 0] := by decide +kernel
theorem b0_0 (c : Dev nD) (t : Fin cfg0.N) (j : Fin 3) : iblk m c 0 t (ix1 j) = V m c main_v22 (ix1 j) := by
  blk_simp [iblk, i0_0]
  blk_ext! [i0_0]
theorem b0_1 (c : Dev nD) (t : Fin cfg0.N) : iblk m c 1 t = rows (V m c main_v23) (p0 t) := by
  funext y
  unfold rows
  blk_simp [iblk, i0_1]
  blk_ext! [i0_1]
  rfl

/-- The array of codes after the run. -/
theorem final_codes (c : Dev nD) : (dats m 0 c).arrAt 4 cfg0.N = codes (V m c main_v23) (V m c main_v22 (ix1 0)) := by
  refine (dats m 0 c).arrAt_eq_of_covers 4 _ (by decide +kernel) fun t hf y => ?_
  rw [after0_4, outs_codes, codesBlock_eq, b0_0, b0_1, codes_rows]
  generalize codes (V m c main_v23) (V m c main_v22 (ix1 0)) = G
  unfold rows
  blk_simp [i0_4]
  blk_ext! [i0_4]
  rfl

/-- What the program ends with: the codes of dy under the inverse scale of its history, and the two scales. -/
theorem run_scales : θ_run defs (onTc (τ := τ) (main (F := Bits))) ⟨m, fun _ => 0, ρ⟩ fun r => ∀ c : Dev nD,
      r.2.mem ((c : Thread nD τ).loc main_v25_0) = codes (shapeCast S15360x7168 (m ((c : Thread nD τ).loc main_arg0)) shapeCasts_S24x640x7168_S15360x7168)
        (Host.inverse (m ((c : Thread nD τ).loc main_arg4)) ix0)
      ∧ r.2.mem ((c : Thread nD τ).loc main_v6) = Host.scale (m ((c : Thread nD τ).loc main_arg4))
      ∧ r.2.mem ((c : Thread nD τ).loc main_v15) = Host.scale (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post4 m r h c).trans ((final_codes m c).trans (by rw [Host.V_dy, Host.V_inv] <;> rfl)),
      ((h c).2 main_v6 (Pipeline.mem_restRefs_of main_v6 (by decide) (by decide))).trans (Host.V_scale m c),
      ((h c).2 main_v15 (Pipeline.mem_restRefs_of main_v15 (by decide) (by decide))).trans (Host.V_scaleH m c),
      kept_main_arg0 m r h c, kept_main_arg1 m r h c, kept_main_arg2 m r h c, kept_main_arg3 m r h c,
      kept_main_arg4 m r h c, kept_main_arg5 m r h c⟩)
    (run_main m ρ)

end Cert.Scales.Value
-- ==== Proof.ScalesReferenceCodes.lean ====
/- The dy codes that the reference of `Scales` ends with, and the equality of the two programs. -/
module

public import proofs.«01_k».proof.Defs
public import proofs.«01_k».proof.Proof.Gen.ScalesReference.Value
public import proofs.«01_k».proof.Proof.ScalesReferenceHost
public import proofs.«01_k».proof.Proof.ScalesCodes

@[expose] public section

set_option maxRecDepth 16384

noncomputable section

namespace Cert.ScalesReference.Value

open Cert.ScalesReference Cert.ScalesReference.Gen Idealize.ShloMosaic Idealize.ShloMosaic.TcCoe Idealize.SL.Sem
open Cert.Scales.Value (codes code)

variable (m : (ℓ : Loc nD τ sig) → Buf (Elt Bits) ℓ) (ρ : Dev nD → PrngReg)

theorem i0_0 : ∀ t : Fin grid0.N, win0_0.index t = ![0, 0] := by decide +kernel
theorem i0_1 : ∀ t : Fin grid0.N, win0_1.index t = ![0, 0] := by decide +kernel
theorem i0_2 : ∀ t : Fin grid0.N, win0_2.index t = ![0, 0] := by decide +kernel
theorem b0_0 (c : Dev nD) (t : Fin cfg0.N) : iblk m c 0 t = V m c main_v16 := by
  funext y
  blk_simp [iblk, i0_0]
  blk_ext! [i0_0]
theorem b0_1 (c : Dev nD) (t : Fin cfg0.N) : iblk m c 1 t = V m c main_v17 := by
  funext y
  blk_simp [iblk, i0_1]
  blk_ext! [i0_1]

/-- Zero offsets, however spelt. -/
theorem hz0 : (![0, 0] : Fin 2 → Nat) = fun _ => 0 := funext fun a => by fin_cases a <;> rfl

theorem ix2_0_eq (y : S15360x7168.Idx) : ix2_0 y = y := funext fun a => by
  match a with
  | ⟨0, _⟩ => rfl
  | ⟨1, _⟩ => rfl
theorem ix2_1_eq (y : S15360x7168.Idx) : ix2_1 y = ix2 0 0 := funext fun a => by
  match a with
  | ⟨0, _⟩ => rfl
  | ⟨1, _⟩ => rfl

/-- The one block of codes. -/
theorem out_codes (x0 : Vec Bits S15360x7168 .bf16) (x1 : Vec Bits S1x1 .f32) : out0_2 x0 x1 = codes x0 (x1 (ix2 0 0)) := by
  unfold out0_2
  rw [View.ld_unit_zero (S := S15360x7168) hz0, View.ld_unit_zero (S := S1x1) hz0]
  refine funext fun y => (canon2_eq x0 x1 y).trans ?_
  unfold E2 codes code
  rw [ix2_0_eq, ix2_1_eq]

/-- The array of codes after the run. -/
theorem final_codes (c : Dev nD) : (dats m 0 c).arrAt 2 cfg0.N = codes (V m c main_v16) (V m c main_v17 (ix2 0 0)) := by
  refine (dats m 0 c).arrAt_eq_of_covers 2 _ (by decide +kernel) fun t hf y => ?_
  rw [after0_2, out_codes, b0_0, b0_1]
  generalize codes (V m c main_v16) (V m c main_v17 (ix2 0 0)) = G
  blk_simp [i0_2]
  blk_ext! [i0_2]

/-- What the reference ends with: the codes of dy under the inverse scale of its history, and the two scales. -/
theorem run_scales : θ_run defs (onTc (τ := τ) (main (F := Bits))) ⟨m, fun _ => 0, ρ⟩ fun r => ∀ c : Dev nD,
      r.2.mem ((c : Thread nD τ).loc main_v18) = codes (shapeCast S15360x7168 (m ((c : Thread nD τ).loc main_arg0)) shapeCasts_S24x640x7168_S15360x7168)
        (Cert.Scales.Host.inverse (m ((c : Thread nD τ).loc main_arg4)) ix0)
      ∧ r.2.mem ((c : Thread nD τ).loc main_v5) = Cert.Scales.Host.scale (m ((c : Thread nD τ).loc main_arg4))
      ∧ r.2.mem ((c : Thread nD τ).loc main_v13) = Cert.Scales.Host.scale (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post2 m r h c).trans ((final_codes m c).trans (by rw [Host.V_dy, Host.V_inv] <;> rfl)),
      ((h c).2 main_v5 (Pipeline.mem_restRefs_of main_v5 (by decide) (by decide))).trans (Host.V_scale m c),
      ((h c).2 main_v13 (Pipeline.mem_restRefs_of main_v13 (by decide) (by decide))).trans (Host.V_scaleH m c),
      kept_main_arg0 m r h c, kept_main_arg1 m r h c, kept_main_arg2 m r h c, kept_main_arg3 m r h c,
      kept_main_arg4 m r h c, kept_main_arg5 m r h c⟩)
    (run_main m ρ)

end Cert.ScalesReference.Value

namespace Cert.Scales.Equal

open Idealize.ShloMosaic Idealize.ShloMosaic.TcCoe Idealize.SL.Sem

/-- The kernel and the reference of `Scales` end with the same words. -/
theorem bitexact : Cert.bitexact_Scales_ScalesReference := by
  intro m g m' g' _ hm
  refine ⟨_, _, _, Cert.Scales.Value.run_scales m g, ?_⟩
  refine (θ_run _ _ _).mono (fun r h c => ?_) (Cert.ScalesReference.Value.run_scales m' g')
  obtain ⟨e0, e1, e2, e3, e4, e5⟩ := hm c
  obtain ⟨r0, r1, r2, hargs⟩ := h c
  refine ⟨r0.trans ?_, r1.trans ?_, r2.trans ?_, hargs⟩
  · rw [e0, e4]
  · rw [e4]
  · rw [e5]

end Cert.Scales.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.Agree
public import proofs.«01_k».proof.Proof.Gen.Scales
public import proofs.«01_k».proof.Proof.Gen.ScalesReference
public import proofs.«01_k».proof.Proof.Gen.Scales.Value
public import proofs.«01_k».proof.Proof.Gen.ScalesReference.Value
public import proofs.«01_k».proof.Proof.ScalesReferenceCodes

@[expose] public section

set_option maxRecDepth 16384

noncomputable section

namespace Cert.Proof

open Idealize.ShloMosaic Idealize.ShloMosaic.TcCoe Idealize.SL.Sem
open Cert.KernelIdeal.Gen (W9 mem_uc)
open Cert.KernelIdeal.Value Cert.ReferenceIdeal.Arrays

/-- The kernel and the reference end with equal results. -/
theorem algebraic : Cert.algebraic_KernelIdeal_ReferenceIdeal := by
  intro m g m' g' _ hm
  have hs : ∀ c, Cert.Agree.Same m m' c := fun c => by
    obtain ⟨h0, h1, h2, h3, h4, h5, h6, h7, h8, h9, h10, h11, h12, h13, h14, h15⟩ := hm c
    exact ⟨h0, h1, h2, h3, h4, h5, h6, h7, h8, h9, h10, h11, h12, h13, h14, h15⟩
  refine ⟨fun c => W9 m g c (Proc.devRef .tc Cert.KernelIdeal.main_v27), fun c => W9 m g c (Proc.devRef .tc Cert.KernelIdeal.main_v14), fun c => W9 m g c (Proc.devRef .tc Cert.KernelIdeal.main_v18), fun c => W9 m g c (Proc.devRef .tc Cert.KernelIdeal.main_v28), fun c => W9 m g c (Proc.devRef .tc Cert.KernelIdeal.main_v29), fun c => W9 m g c (Proc.devRef .tc Cert.KernelIdeal.main_v22), fun c => W9 m g c (Proc.devRef .tc Cert.KernelIdeal.main_v26), ?_, ?_⟩
  · refine (θ_run _ _ _).mono (fun r h c => ⟨h.1 c _ (mem_uc Cert.KernelIdeal.main_v27 (by decide)), h.1 c _ (mem_uc Cert.KernelIdeal.main_v14 (by decide)), h.1 c _ (mem_uc Cert.KernelIdeal.main_v18 (by decide)), h.1 c _ (mem_uc Cert.KernelIdeal.main_v28 (by decide)), h.1 c _ (mem_uc Cert.KernelIdeal.main_v29 (by decide)), h.1 c _ (mem_uc Cert.KernelIdeal.main_v22 (by decide)), h.1 c _ (mem_uc Cert.KernelIdeal.main_v26 (by decide)),
      (h.1 c _ (mem_uc Cert.KernelIdeal.main_arg0 (by decide))).trans (Cert.KernelIdeal.Gen.W9_main_arg0 m g c),
      (h.1 c _ (mem_uc Cert.KernelIdeal.main_arg1 (by decide))).trans (Cert.KernelIdeal.Gen.W9_main_arg1 m g c),
      (h.1 c _ (mem_uc Cert.KernelIdeal.main_arg2 (by decide))).trans (Cert.KernelIdeal.Gen.W9_main_arg2 m g c),
      (h.1 c _ (mem_uc Cert.KernelIdeal.main_arg3 (by decide))).trans (Cert.KernelIdeal.Gen.W9_main_arg3 m g c),
      (h.1 c _ (mem_uc Cert.KernelIdeal.main_arg4 (by decide))).trans (Cert.KernelIdeal.Gen.W9_main_arg4 m g c),
      (h.1 c _ (mem_uc Cert.KernelIdeal.main_arg5 (by decide))).trans (Cert.KernelIdeal.Gen.W9_main_arg5 m g c),
      (h.1 c _ (mem_uc Cert.KernelIdeal.main_arg6 (by decide))).trans (Cert.KernelIdeal.Gen.W9_main_arg6 m g c),
      (h.1 c _ (mem_uc Cert.KernelIdeal.main_arg7 (by decide))).trans (Cert.KernelIdeal.Gen.W9_main_arg7 m g c),
      (h.1 c _ (mem_uc Cert.KernelIdeal.main_arg8 (by decide))).trans (Cert.KernelIdeal.Gen.W9_main_arg8 m g c),
      (h.1 c _ (mem_uc Cert.KernelIdeal.main_arg9 (by decide))).trans (Cert.KernelIdeal.Gen.W9_main_arg9 m g c),
      (h.1 c _ (mem_uc Cert.KernelIdeal.main_arg10 (by decide))).trans (Cert.KernelIdeal.Gen.W9_main_arg10 m g c),
      (h.1 c _ (mem_uc Cert.KernelIdeal.main_arg11 (by decide))).trans (Cert.KernelIdeal.Gen.W9_main_arg11 m g c),
      (h.1 c _ (mem_uc Cert.KernelIdeal.main_arg12 (by decide))).trans (Cert.KernelIdeal.Gen.W9_main_arg12 m g c),
      (h.1 c _ (mem_uc Cert.KernelIdeal.main_arg13 (by decide))).trans (Cert.KernelIdeal.Gen.W9_main_arg13 m g c),
      (h.1 c _ (mem_uc Cert.KernelIdeal.main_arg14 (by decide))).trans (Cert.KernelIdeal.Gen.W9_main_arg14 m g c),
      (h.1 c _ (mem_uc Cert.KernelIdeal.main_arg15 (by decide))).trans (Cert.KernelIdeal.Gen.W9_main_arg15 m g c)⟩) (Cert.KernelIdeal.Gen.run_all m g)
  · refine (θ_run _ _ _).mono (fun r h c => ?_) (Cert.ReferenceIdeal.Value.run m' g')
    obtain ⟨r0, r1, r2, r3, r4, r5, r6, hargs⟩ := h c
    refine ⟨r0.trans ?_, r1.trans ?_, r2.trans ?_, r3.trans ?_, r4.trans ?_, r5.trans ?_, r6.trans ?_, hargs⟩
    · refine Eq.trans ?_ (res_v27 m g c).symm
      rw [reg0, Cert.Agree.dxf_eq (hs c)] <;> rfl
    · refine Eq.trans ?_ (res_v14 m g c).symm
      rw [reg1, Cert.Agree.dw1f_eq (hs c)] <;> rfl
    · refine Eq.trans ?_ (res_v18 m g c).symm
      rw [reg2, Cert.Agree.dw2f_eq (hs c)] <;> rfl
    · refine Eq.trans ?_ (res_v28 m g c).symm
      rw [reg3, Cert.Agree.dyc_eq (hs c)] <;> rfl
    · refine Eq.trans ?_ (res_v29 m g c).symm
      rw [reg4, Cert.Agree.dhc_eq (hs c)] <;> rfl
    · refine Eq.trans ?_ (res_v22 m g c).symm
      rw [Cert.Agree.amax_dy (hs c) g _ Cert.KernelIdeal.Gen.facts.reducesTo_S8x128_S_d0_1 Cert.KernelIdeal.Gen.facts.h_S_, (hs c).a10]
      rfl
    · refine Eq.trans ?_ (res_v26 m g c).symm
      rw [reg5, Cert.Agree.amax_dH (hs c) g Cert.KernelIdeal.Gen.facts.reducesTo_S8x128_S_d0_1 Cert.KernelIdeal.Gen.facts.h_S_, (hs c).a11]
      rfl

theorem claim : Cert.Claim := ⟨Cert.Kernel.Gen.facts, Cert.KernelIdeal.Gen.facts, Cert.ReferenceIdeal.Gen.facts,
  Cert.Scales.Gen.facts, Cert.ScalesReference.Gen.facts,
  fun m ρ _ => Cert.Kernel.Gen.frame m ρ, fun m ρ _ => Cert.KernelIdeal.Gen.frame m ρ, fun m ρ _ => Cert.ReferenceIdeal.Gen.frame m ρ,
  fun m ρ _ => Cert.Scales.Gen.frame m ρ, fun m ρ _ => Cert.ScalesReference.Gen.frame m ρ,
  trivial, algebraic, Cert.Scales.Equal.bitexact⟩

end Cert.Proof

end
